-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_later_weights_finite [hPre_later_weights_finite : Cert.Pre_later_weights_finite.Facts] (m : (ℓ : Loc Cert.KernelIdeal.nD Cert.KernelIdeal.τ Cert.KernelIdeal.sig) → Buf (Elt Ideal) ℓ) : Prop :=
  ∀ c : Dev Cert.KernelIdeal.nD,
    (Cert.Pre_later_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_later_weights_finite [hPre_later_weights_finite : Cert.Pre_later_weights_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_later_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_later_weights_finite [hKernelIdeal : Cert.KernelIdeal.Facts] [hPre_later_weights_finite : Cert.Pre_later_weights_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_later_weights_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_later_weights_finite [hReferenceIdeal : Cert.ReferenceIdeal.Facts] [hPre_later_weights_finite : Cert.Pre_later_weights_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_later_weights_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_later_weights_finite [hKernelIdeal : Cert.KernelIdeal.Facts] [hReferenceIdeal : Cert.ReferenceIdeal.Facts] [hPre_later_weights_finite : Cert.Pre_later_weights_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_later_weights_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_later_weights_finite : Cert.Pre_later_weights_finite.Facts),
    quiescent_Kernel (hKernel := hKernel)
    ∧ quiescent_KernelIdeal (hKernelIdeal := hKernelIdeal)
    ∧ quiescent_KernelIdeal_pre_later_weights_finite (hKernelIdeal := hKernelIdeal) (hPre_later_weights_finite := hPre_later_weights_finite)
    ∧ quiescent_ReferenceIdeal (hReferenceIdeal := hReferenceIdeal)
    ∧ quiescent_ReferenceIdeal_pre_later_weights_finite (hReferenceIdeal := hReferenceIdeal) (hPre_later_weights_finite := hPre_later_weights_finite)
    ∧ preserves_Kernel_KernelIdeal
    ∧ algebraic_KernelIdeal_ReferenceIdeal_pre_later_weights_finite (hKernelIdeal := hKernelIdeal) (hReferenceIdeal := hReferenceIdeal) (hPre_later_weights_finite := hPre_later_weights_finite)
-- ==== Pre_later_weights_finite.lean ====
abbrev S2048x256x129 : Shape := ⟨3, ![2048, 256, 129]⟩
abbrev S129x128 : Shape := ⟨2, ![129, 128]⟩
abbrev S128 : Shape := ⟨1, ![128]⟩
abbrev S1024x128 : Shape := ⟨2, ![1024, 128]⟩
abbrev S256x256 : Shape := ⟨2, ![256, 256]⟩
abbrev S256 : Shape := ⟨1, ![256]⟩
abbrev S2048x256 : Shape := ⟨2, ![2048, 256]⟩
abbrev S256x2048 : Shape := ⟨2, ![256, 2048]⟩
abbrev S2048 : Shape := ⟨1, ![2048]⟩
abbrev S128x1024 : Shape := ⟨2, ![128, 1024]⟩
abbrev S1024 : Shape := ⟨1, ![1024]⟩
abbrev S128x129 : Shape := ⟨2, ![128, 129]⟩
abbrev S129 : Shape := ⟨1, ![129]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S2048x256 : S_.BroadcastsInDim S2048x256 (![] : Fin 0 → Fin S2048x256.rank)
  reducesTo_S2048x256_S_d0_1 : S2048x256.ReducesTo [0, 1] S_
  bcast_S_S256x2048 : S_.BroadcastsInDim S256x2048 (![] : Fin 0 → Fin S256x2048.rank)
  reducesTo_S256x2048_S_d0_1 : S256x2048.ReducesTo [0, 1] S_
  bcast_S_S128x1024 : S_.BroadcastsInDim S128x1024 (![] : Fin 0 → Fin S128x1024.rank)
  reducesTo_S128x1024_S_d0_1 : S128x1024.ReducesTo [0, 1] S_
  bcast_S_S128x129 : S_.BroadcastsInDim S128x129 (![] : Fin 0 → Fin S128x129.rank)
  reducesTo_S128x129_S_d0_1 : S128x129.ReducesTo [0, 1] S_

variable [Facts]

def fn_part2 {F : FTy → Type} [FloatOps F] (main_v29 : IVec S_ 1) (main_v32 : IVec S128x129 1) (main_c_12 : IVec S_ 1) : IVec S_ 1 :=
  let main_v33 : IVec S_ 1 := (fun x v => Host.reduce IntOp.andi x v reducesTo_S128x129_S_d0_1 h_S_) main_v32 main_c_12
  let main_v34 : IVec S_ 1 := andi main_v29 main_v33
  main_v34

def fn_part1 {F : FTy → Type} [FloatOps F] (main_arg11 : FVec F S256x256 .f32) (main_arg13 : FVec F S128x1024 .f32) (main_arg15 : FVec F S128x129 .f32) (main_v14 : IVec S_ 1) (main_v15 : FVec F S256x2048 .f32) (main_cst_5 : FVec F S_ .f32) : IVec S_ 1 :=
  let main_v16 : FVec F S256x2048 .f32 := broadcastInDim S256x2048 ![] bcast_S_S256x2048 main_cst_5
  let main_v17 : IVec S256x2048 1 := cmpf .olt main_v15 main_v16
  let main_c_6 : IVec S_ 1 := constantI S_ 1 1#1
  let main_v18 : IVec S_ 1 := (fun x v => Host.reduce IntOp.andi x v reducesTo_S256x2048_S_d0_1 h_S_) main_v17 main_c_6
  let main_v19 : IVec S_ 1 := andi main_v14 main_v18
  let main_v20 : FVec F S256x256 .f32 := Host.absf main_arg11
  let main_cst_7 : FVec F S_ .f32 := constant S_ .f32 0x7F800000#32
  let main_v21 : FVec F S256x256 .f32 := broadcastInDim S256x256 ![] bcast_S_S256x256 main_cst_7
  let main_v22 : IVec S256x256 1 := cmpf .olt main_v20 main_v21
  let main_c_8 : IVec S_ 1 := constantI S_ 1 1#1
  let main_v23 : IVec S_ 1 := (fun x v => Host.reduce IntOp.andi x v reducesTo_S256x256_S_d0_1 h_S_) main_v22 main_c_8
  let main_v24 : IVec S_ 1 := andi main_v19 main_v23
  let main_v25 : FVec F S128x1024 .f32 := Host.absf main_arg13
  let main_cst_9 : FVec F S_ .f32 := constant S_ .f32 0x7F800000#32
  let main_v26 : FVec F S128x1024 .f32 := broadcastInDim S128x1024 ![] bcast_S_S128x1024 main_cst_9
  let main_v27 : IVec S128x1024 1 := cmpf .olt main_v25 main_v26
  let main_c_10 : IVec S_ 1 := constantI S_ 1 1#1
  let main_v28 : IVec S_ 1 := (fun x v => Host.reduce IntOp.andi x v reducesTo_S128x1024_S_d0_1 h_S_) main_v27 main_c_10
  let main_v29 : IVec S_ 1 := andi main_v24 main_v28
  let main_v30 : FVec F S128x129 .f32 := Host.absf main_arg15
  let main_cst_11 : FVec F S_ .f32 := constant S_ .f32 0x7F800000#32
  let main_v31 : FVec F S128x129 .f32 := broadcastInDim S128x129 ![] bcast_S_S128x129 main_cst_11
  let main_v32 : IVec S128x129 1 := cmpf .olt main_v30 main_v31
  let main_c_12 : IVec S_ 1 := constantI S_ 1 1#1
  fn_part2 (F := F) main_v29 main_v32 main_c_12

def fn {F : FTy → Type} [FloatOps F] (main_arg0 : FVec F S2048x256x129 .f32) (main_arg1 : FVec F S129x128 .f32) (main_arg2 : FVec F S128 .f32) (main_arg3 : FVec F S1024x128 .f32) (main_arg4 : FVec F S128 .f32) (main_arg5 : FVec F S256x256 .f32) (main_arg6 : FVec F S256 .f32) (main_arg7 : FVec F S2048x256 .f32) (main_arg8 : FVec F S256 .f32) (main_arg9 : FVec F S256x2048 .f32) (main_arg10 : FVec F S2048 .f32) (main_arg11 : FVec F S256x256 .f32) (main_arg12 : FVec F S256 .f32) (main_arg13 : FVec F S128x1024 .f32) (main_arg14 : FVec F S1024 .f32) (main_arg15 : FVec F S128x129 .f32) (main_arg16 : FVec F S129 .f32) : IVec S_ 1 :=
  let main_v0 : FVec F S1024x128 .f32 := Host.absf main_arg3
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_c_0 : IVec S_ 1 := constantI S_ 1 1#1
  let main_v4 : IVec S_ 1 := andi main_c_0 main_v3
  let main_v5 : FVec F S256x256 .f32 := Host.absf main_arg5
  let main_cst_1 : FVec F S_ .f32 := constant S_ .f32 0x7F800000#32
  let main_v6 : FVec F S256x256 .f32 := broadcastInDim S256x256 ![] bcast_S_S256x256 main_cst_1
  let main_v7 : IVec S256x256 1 := cmpf .olt main_v5 main_v6
  let main_c_2 : IVec S_ 1 := constantI S_ 1 1#1
  let main_v8 : IVec S_ 1 := (fun x v => Host.reduce IntOp.andi x v reducesTo_S256x256_S_d0_1 h_S_) main_v7 main_c_2
  let main_v9 : IVec S_ 1 := andi main_v4 main_v8
  let main_v10 : FVec F S2048x256 .f32 := Host.absf main_arg7
  let main_cst_3 : FVec F S_ .f32 := constant S_ .f32 0x7F800000#32
  let main_v11 : FVec F S2048x256 .f32 := broadcastInDim S2048x256 ![] bcast_S_S2048x256 main_cst_3
  let main_v12 : IVec S2048x256 1 := cmpf .olt main_v10 main_v11
  let main_c_4 : IVec S_ 1 := constantI S_ 1 1#1
  let main_v13 : IVec S_ 1 := (fun x v => Host.reduce IntOp.andi x v reducesTo_S2048x256_S_d0_1 h_S_) main_v12 main_c_4
  let main_v14 : IVec S_ 1 := andi main_v9 main_v13
  let main_v15 : FVec F S256x2048 .f32 := Host.absf main_arg9
  let main_cst_5 : FVec F S_ .f32 := constant S_ .f32 0x7F800000#32
  fn_part1 (F := F) main_arg11 main_arg13 main_arg15 main_v14 main_v15 main_cst_5
-- ==== Kernel.lean ====
abbrev S2048x256x129 : Shape := ⟨3, ![2048, 256, 129]⟩
abbrev S129x128 : Shape := ⟨2, ![129, 128]⟩
abbrev S128 : Shape := ⟨1, ![128]⟩
abbrev S1024x128 : Shape := ⟨2, ![1024, 128]⟩
abbrev S256x256 : Shape := ⟨2, ![256, 256]⟩
abbrev S256 : Shape := ⟨1, ![256]⟩
abbrev S2048x256 : Shape := ⟨2, ![2048, 256]⟩
abbrev S256x2048 : Shape := ⟨2, ![256, 2048]⟩
abbrev S2048 : Shape := ⟨1, ![2048]⟩
abbrev S128x1024 : Shape := ⟨2, ![128, 1024]⟩
abbrev S1024 : Shape := ⟨1, ![1024]⟩
abbrev S128x129 : Shape := ⟨2, ![128, 129]⟩
abbrev S129 : Shape := ⟨1, ![129]⟩
abbrev S129x2048x256 : Shape := ⟨3, ![129, 2048, 256]⟩
abbrev S_ : Shape := ⟨0, ![]⟩
abbrev S1x128 : Shape := ⟨2, ![1, 128]⟩
abbrev S1x256 : Shape := ⟨2, ![1, 256]⟩
abbrev S1x2048 : Shape := ⟨2, ![1, 2048]⟩
abbrev S1x1024 : Shape := ⟨2, ![1, 1024]⟩
abbrev S129x1 : Shape := ⟨2, ![129, 1]⟩
abbrev S129x64x256 : Shape := ⟨3, ![129, 64, 256]⟩
abbrev S129x16384 : Shape := ⟨2, ![129, 16384]⟩
abbrev S16384x128 : Shape := ⟨2, ![16384, 128]⟩
abbrev S2048x1024 : Shape := ⟨2, ![2048, 1024]⟩
abbrev S2048x128 : Shape := ⟨2, ![2048, 128]⟩
abbrev S1024x256 : Shape := ⟨2, ![1024, 256]⟩
abbrev S128x2048 : Shape := ⟨2, ![128, 2048]⟩
abbrev S128x256 : Shape := ⟨2, ![128, 256]⟩

abbrev nBuf : Space → Nat
  | .hbm => 136
  | .vmem => 20
  | .smem => 0
  | _ => 0

abbrev hbmTy0_0 (i : Nat) : BufTy := match i % 128 with
  | 0 => ⟨S2048x256x129, .f32⟩
  | 1 => ⟨S129x128, .f32⟩
  | 2 => ⟨S128, .f32⟩
  | 3 => ⟨S1024x128, .f32⟩
  | 4 => ⟨S128, .f32⟩
  | 5 => ⟨S256x256, .f32⟩
  | 6 => ⟨S256, .f32⟩
  | 7 => ⟨S2048x256, .f32⟩
  | 8 => ⟨S256, .f32⟩
  | 9 => ⟨S256x2048, .f32⟩
  | 10 => ⟨S2048, .f32⟩
  | 11 => ⟨S256x256, .f32⟩
  | 12 => ⟨S256, .f32⟩
  | 13 => ⟨S128x1024, .f32⟩
  | 14 => ⟨S1024, .f32⟩
  | 15 => ⟨S128x129, .f32⟩
  | 16 => ⟨S129, .f32⟩
  | 17 => ⟨S129x2048x256, .f32⟩
  | 18 => ⟨S_, .f32⟩
  | 19 => ⟨S129x128, .f32⟩
  | 20 => ⟨S129x128, .f32⟩
  | 21 => ⟨S128x129, .f32⟩
  | 22 => ⟨S_, .f32⟩
  | 23 => ⟨S128, .f32⟩
  | 24 => ⟨S128, .f32⟩
  | 25 => ⟨S128x129, .bf16⟩
  | 26 => ⟨S128, .bf16⟩
  | 27 => ⟨S1x128, .bf16⟩
  | 28 => ⟨S_, .f32⟩
  | 29 => ⟨S1024x128, .f32⟩
  | 30 => ⟨S1024x128, .f32⟩
  | 31 => ⟨S_, .f32⟩
  | 32 => ⟨S128, .f32⟩
  | 33 => ⟨S_, .f32⟩
  | 34 => ⟨S128, .f32⟩
  | 35 => ⟨S128, .f32⟩
  | 36 => ⟨S_, .f32⟩
  | 37 => ⟨S128, .f32⟩
  | 38 => ⟨S128, .f32⟩
  | 39 => ⟨S128, .f32⟩
  | 40 => ⟨S1024x128, .bf16⟩
  | 41 => ⟨S128, .bf16⟩
  | 42 => ⟨S1x128, .bf16⟩
  | 43 => ⟨S_, .f32⟩
  | 44 => ⟨S256x256, .f32⟩
  | 45 => ⟨S256x256, .f32⟩
  | 46 => ⟨S_, .f32⟩
  | 47 => ⟨S256, .f32⟩
  | 48 => ⟨S_, .f32⟩
  | 49 => ⟨S256, .f32⟩
  | 50 => ⟨S256, .f32⟩
  | 51 => ⟨S_, .f32⟩
  | 52 => ⟨S256, .f32⟩
  | 53 => ⟨S256, .f32⟩
  | 54 => ⟨S256, .f32⟩
  | 55 => ⟨S256x256, .bf16⟩
  | 56 => ⟨S256, .bf16⟩
  | 57 => ⟨S1x256, .bf16⟩
  | 58 => ⟨S_, .f32⟩
  | 59 => ⟨S2048x256, .f32⟩
  | 60 => ⟨S2048x256, .f32⟩
  | 61 => ⟨S_, .f32⟩
  | 62 => ⟨S256, .f32⟩
  | 63 => ⟨S_, .f32⟩
  | 64 => ⟨S256, .f32⟩
  | 65 => ⟨S256, .f32⟩
  | 66 => ⟨S_, .f32⟩
  | 67 => ⟨S256, .f32⟩
  | 68 => ⟨S256, .f32⟩
  | 69 => ⟨S256, .f32⟩
  | 70 => ⟨S2048x256, .bf16⟩
  | 71 => ⟨S256, .bf16⟩
  | 72 => ⟨S1x256, .bf16⟩
  | 73 => ⟨S_, .f32⟩
  | 74 => ⟨S256x2048, .f32⟩
  | 75 => ⟨S256x2048, .f32⟩
  | 76 => ⟨S_, .f32⟩
  | 77 => ⟨S2048, .f32⟩
  | 78 => ⟨S_, .f32⟩
  | 79 => ⟨S2048, .f32⟩
  | 80 => ⟨S2048, .f32⟩
  | 81 => ⟨S_, .f32⟩
  | 82 => ⟨S2048, .f32⟩
  | 83 => ⟨S2048, .f32⟩
  | 84 => ⟨S2048, .f32⟩
  | 85 => ⟨S256x2048, .bf16⟩
  | 86 => ⟨S2048, .bf16⟩
  | 87 => ⟨S1x2048, .bf16⟩
  | 88 => ⟨S_, .f32⟩
  | 89 => ⟨S256x256, .f32⟩
  | 90 => ⟨S256x256, .f32⟩
  | 91 => ⟨S_, .f32⟩
  | 92 => ⟨S256, .f32⟩
  | 93 => ⟨S_, .f32⟩
  | 94 => ⟨S256, .f32⟩
  | 95 => ⟨S256, .f32⟩
  | 96 => ⟨S_, .f32⟩
  | 97 => ⟨S256, .f32⟩
  | 98 => ⟨S256, .f32⟩
  | 99 => ⟨S256, .f32⟩
  | 100 => ⟨S256x256, .bf16⟩
  | 101 => ⟨S256, .bf16⟩
  | 102 => ⟨S1x256, .bf16⟩
  | 103 => ⟨S_, .f32⟩
  | 104 => ⟨S128x1024, .f32⟩
  | 105 => ⟨S128x1024, .f32⟩
  | 106 => ⟨S_, .f32⟩
  | 107 => ⟨S1024, .f32⟩
  | 108 => ⟨S_, .f32⟩
  | 109 => ⟨S1024, .f32⟩
  | 110 => ⟨S1024, .f32⟩
  | 111 => ⟨S_, .f32⟩
  | 112 => ⟨S1024, .f32⟩
  | 113 => ⟨S1024, .f32⟩
  | 114 => ⟨S1024, .f32⟩
  | 115 => ⟨S128x1024, .bf16⟩
  | 116 => ⟨S1024, .bf16⟩
  | 117 => ⟨S1x1024, .bf16⟩
  | 118 => ⟨S_, .f32⟩
  | 119 => ⟨S128x129, .f32⟩
  | 120 => ⟨S128x129, .f32⟩
  | 121 => ⟨S_, .f32⟩
  | 122 => ⟨S129, .f32⟩
  | 123 => ⟨S_, .f32⟩
  | 124 => ⟨S129, .f32⟩
  | 125 => ⟨S129, .f32⟩
  | 126 => ⟨S_, .f32⟩
  | 127 => ⟨S129, .f32⟩
  | _ => ⟨S2048x256x129, .f32⟩

abbrev hbmTy0_1 (i : Nat) : BufTy := match i % 128 with
  | 0 => ⟨S129, .f32⟩
  | 1 => ⟨S129, .f32⟩
  | 2 => ⟨S129x128, .f32⟩
  | 3 => ⟨S129x128, .bf16⟩
  | 4 => ⟨S129, .bf16⟩
  | 5 => ⟨S129x1, .bf16⟩
  | 6 => ⟨S129x2048x256, .f32⟩
  | 7 => ⟨S2048x256x129, .f32⟩
  | _ => ⟨S2048x256x129, .f32⟩

abbrev hbmTy (i : Nat) : BufTy := match i / 128 with
  | 0 => hbmTy0_0 i
  | 1 => hbmTy0_1 i
  | _ => ⟨S2048x256x129, .f32⟩

abbrev bufTy : (tb : Table) → Fin (tcTables nBuf tb) → BufTy
  | .hbm, ⟨i, _⟩ => hbmTy i
  | .local _ .vmem, ⟨0, _⟩ => ⟨S129x64x256, .f32⟩
  | .local _ .vmem, ⟨1, _⟩ => ⟨S129x64x256, .f32⟩
  | .local _ .vmem, ⟨2, _⟩ => ⟨S128x129, .bf16⟩
  | .local _ .vmem, ⟨3, _⟩ => ⟨S1x128, .bf16⟩
  | .local _ .vmem, ⟨4, _⟩ => ⟨S1024x128, .bf16⟩
  | .local _ .vmem, ⟨5, _⟩ => ⟨S1x128, .bf16⟩
  | .local _ .vmem, ⟨6, _⟩ => ⟨S256x256, .bf16⟩
  | .local _ .vmem, ⟨7, _⟩ => ⟨S1x256, .bf16⟩
  | .local _ .vmem, ⟨8, _⟩ => ⟨S2048x256, .bf16⟩
  | .local _ .vmem, ⟨9, _⟩ => ⟨S1x256, .bf16⟩
  | .local _ .vmem, ⟨10, _⟩ => ⟨S256x2048, .bf16⟩
  | .local _ .vmem, ⟨11, _⟩ => ⟨S1x2048, .bf16⟩
  | .local _ .vmem, ⟨12, _⟩ => ⟨S256x256, .bf16⟩
  | .local _ .vmem, ⟨13, _⟩ => ⟨S1x256, .bf16⟩
  | .local _ .vmem, ⟨14, _⟩ => ⟨S128x1024, .bf16⟩
  | .local _ .vmem, ⟨15, _⟩ => ⟨S1x1024, .bf16⟩
  | .local _ .vmem, ⟨16, _⟩ => ⟨S129x128, .bf16⟩
  | .local _ .vmem, ⟨17, _⟩ => ⟨S129x1, .bf16⟩
  | .local _ .vmem, ⟨18, _⟩ => ⟨S129x64x256, .f32⟩
  | .local _ .vmem, ⟨19, _⟩ => ⟨S129x64x256, .f32⟩
  | _, _ => ⟨S2048x256x129, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_cst_1 : Ref sig .tc := ⟨.hbm, 28, rfl⟩
abbrev main_call0_v9 : Ref sig .tc := ⟨.hbm, 29, rfl⟩
abbrev main_call0_v10 : Ref sig .tc := ⟨.hbm, 30, rfl⟩
abbrev main_call0_cst_2 : Ref sig .tc := ⟨.hbm, 31, rfl⟩
abbrev main_call0_v11 : Ref sig .tc := ⟨.hbm, 32, rfl⟩
abbrev main_call0_cst_3 : Ref sig .tc := ⟨.hbm, 33, rfl⟩
abbrev main_call0_v12 : Ref sig .tc := ⟨.hbm, 34, rfl⟩
abbrev main_call0_v13 : Ref sig .tc := ⟨.hbm, 35, rfl⟩
abbrev main_call0_cst_4 : Ref sig .tc := ⟨.hbm, 36, rfl⟩
abbrev main_call0_v14 : Ref sig .tc := ⟨.hbm, 37, rfl⟩
abbrev main_call0_v15 : Ref sig .tc := ⟨.hbm, 38, rfl⟩
abbrev main_call0_v16 : Ref sig .tc := ⟨.hbm, 39, rfl⟩
abbrev main_call0_v17 : Ref sig .tc := ⟨.hbm, 40, rfl⟩
abbrev main_call0_v18 : Ref sig .tc := ⟨.hbm, 41, rfl⟩
abbrev main_call0_v19 : Ref sig .tc := ⟨.hbm, 42, rfl⟩
abbrev main_call0_cst_5 : Ref sig .tc := ⟨.hbm, 43, rfl⟩
abbrev main_call0_v20 : Ref sig .tc := ⟨.hbm, 44, rfl⟩
abbrev main_call0_v21 : Ref sig .tc := ⟨.hbm, 45, rfl⟩
abbrev main_call0_cst_6 : Ref sig .tc := ⟨.hbm, 46, rfl⟩
abbrev main_call0_v22 : Ref sig .tc := ⟨.hbm, 47, rfl⟩
abbrev main_call0_cst_7 : Ref sig .tc := ⟨.hbm, 48, rfl⟩
abbrev main_call0_v23 : Ref sig .tc := ⟨.hbm, 49, rfl⟩
abbrev main_call0_v24 : Ref sig .tc := ⟨.hbm, 50, rfl⟩
abbrev main_call0_cst_8 : Ref sig .tc := ⟨.hbm, 51, rfl⟩
abbrev main_call0_v25 : Ref sig .tc := ⟨.hbm, 52, rfl⟩
abbrev main_call0_v26 : Ref sig .tc := ⟨.hbm, 53, rfl⟩
abbrev main_call0_v27 : Ref sig .tc := ⟨.hbm, 54, rfl⟩
abbrev main_call0_v28 : Ref sig .tc := ⟨.hbm, 55, rfl⟩
abbrev main_call0_v29 : Ref sig .tc := ⟨.hbm, 56, rfl⟩
abbrev main_call0_v30 : Ref sig .tc := ⟨.hbm, 57, rfl⟩
abbrev main_call0_cst_9 : Ref sig .tc := ⟨.hbm, 58, rfl⟩
abbrev main_call0_v31 : Ref sig .tc := ⟨.hbm, 59, rfl⟩
abbrev main_call0_v32 : Ref sig .tc := ⟨.hbm, 60, rfl⟩
abbrev main_call0_cst_10 : Ref sig .tc := ⟨.hbm, 61, rfl⟩
abbrev main_call0_v33 : Ref sig .tc := ⟨.hbm, 62, rfl⟩
abbrev main_call0_cst_11 : Ref sig .tc := ⟨.hbm, 63, rfl⟩
abbrev main_call0_v34 : Ref sig .tc := ⟨.hbm, 64, rfl⟩
abbrev main_call0_v35 : Ref sig .tc := ⟨.hbm, 65, rfl⟩
abbrev main_call0_cst_12 : Ref sig .tc := ⟨.hbm, 66, rfl⟩
abbrev main_call0_v36 : Ref sig .tc := ⟨.hbm, 67, rfl⟩
abbrev main_call0_v37 : Ref sig .tc := ⟨.hbm, 68, rfl⟩
abbrev main_call0_v38 : Ref sig .tc := ⟨.hbm, 69, rfl⟩
abbrev main_call0_v39 : Ref sig .tc := ⟨.hbm, 70, rfl⟩
abbrev main_call0_v40 : Ref sig .tc := ⟨.hbm, 71, rfl⟩
abbrev main_call0_v41 : Ref sig .tc := ⟨.hbm, 72, rfl⟩
abbrev main_call0_cst_13 : Ref sig .tc := ⟨.hbm, 73, rfl⟩
abbrev main_call0_v42 : Ref sig .tc := ⟨.hbm, 74, rfl⟩
abbrev main_call0_v43 : Ref sig .tc := ⟨.hbm, 75, rfl⟩
abbrev main_call0_cst_14 : Ref sig .tc := ⟨.hbm, 76, rfl⟩
abbrev main_call0_v44 : Ref sig .tc := ⟨.hbm, 77, rfl⟩
abbrev main_call0_cst_15 : Ref sig .tc := ⟨.hbm, 78, rfl⟩
abbrev main_call0_v45 : Ref sig .tc := ⟨.hbm, 79, rfl⟩
abbrev main_call0_v46 : Ref sig .tc := ⟨.hbm, 80, rfl⟩
abbrev main_call0_cst_16 : Ref sig .tc := ⟨.hbm, 81, rfl⟩
abbrev main_call0_v47 : Ref sig .tc := ⟨.hbm, 82, rfl⟩
abbrev main_call0_v48 : Ref sig .tc := ⟨.hbm, 83, rfl⟩
abbrev main_call0_v49 : Ref sig .tc := ⟨.hbm, 84, rfl⟩
abbrev main_call0_v50 : Ref sig .tc := ⟨.hbm, 85, rfl⟩
abbrev main_call0_v51 : Ref sig .tc := ⟨.hbm, 86, rfl⟩
abbrev main_call0_v52 : Ref sig .tc := ⟨.hbm, 87, rfl⟩
abbrev main_call0_cst_17 : Ref sig .tc := ⟨.hbm, 88, rfl⟩
abbrev main_call0_v53 : Ref sig .tc := ⟨.hbm, 89, rfl⟩
abbrev main_call0_v54 : Ref sig .tc := ⟨.hbm, 90, rfl⟩
abbrev main_call0_cst_18 : Ref sig .tc := ⟨.hbm, 91, rfl⟩
abbrev main_call0_v55 : Ref sig .tc := ⟨.hbm, 92, rfl⟩
abbrev main_call0_cst_19 : Ref sig .tc := ⟨.hbm, 93, rfl⟩
abbrev main_call0_v56 : Ref sig .tc := ⟨.hbm, 94, rfl⟩
abbrev main_call0_v57 : Ref sig .tc := ⟨.hbm, 95, rfl⟩
abbrev main_call0_cst_20 : Ref sig .tc := ⟨.hbm, 96, rfl⟩
abbrev main_call0_v58 : Ref sig .tc := ⟨.hbm, 97, rfl⟩
abbrev main_call0_v59 : Ref sig .tc := ⟨.hbm, 98, rfl⟩
abbrev main_call0_v60 : Ref sig .tc := ⟨.hbm, 99, rfl⟩
abbrev main_call0_v61 : Ref sig .tc := ⟨.hbm, 100, rfl⟩
abbrev main_call0_v62 : Ref sig .tc := ⟨.hbm, 101, rfl⟩
abbrev main_call0_v63 : Ref sig .tc := ⟨.hbm, 102, rfl⟩
abbrev main_call0_cst_21 : Ref sig .tc := ⟨.hbm, 103, rfl⟩
abbrev main_call0_v64 : Ref sig .tc := ⟨.hbm, 104, rfl⟩
abbrev main_call0_v65 : Ref sig .tc := ⟨.hbm, 105, rfl⟩
abbrev main_call0_cst_22 : Ref sig .tc := ⟨.hbm, 106, rfl⟩
abbrev main_call0_v66 : Ref sig .tc := ⟨.hbm, 107, rfl⟩
abbrev main_call0_cst_23 : Ref sig .tc := ⟨.hbm, 108, rfl⟩
abbrev main_call0_v67 : Ref sig .tc := ⟨.hbm, 109, rfl⟩
abbrev main_call0_v68 : Ref sig .tc := ⟨.hbm, 110, rfl⟩
abbrev main_call0_cst_24 : Ref sig .tc := ⟨.hbm, 111, rfl⟩
abbrev main_call0_v69 : Ref sig .tc := ⟨.hbm, 112, rfl⟩
abbrev main_call0_v70 : Ref sig .tc := ⟨.hbm, 113, rfl⟩
abbrev main_call0_v71 : Ref sig .tc := ⟨.hbm, 114, rfl⟩
abbrev main_call0_v72 : Ref sig .tc := ⟨.hbm, 115, rfl⟩
abbrev main_call0_v73 : Ref sig .tc := ⟨.hbm, 116, rfl⟩
abbrev main_call0_v74 : Ref sig .tc := ⟨.hbm, 117, rfl⟩
abbrev main_call0_cst_25 : Ref sig .tc := ⟨.hbm, 118, rfl⟩
abbrev main_call0_v75 : Ref sig .tc := ⟨.hbm, 119, rfl⟩
abbrev main_call0_v76 : Ref sig .tc := ⟨.hbm, 120, rfl⟩
abbrev main_call0_cst_26 : Ref sig .tc := ⟨.hbm, 121, rfl⟩
abbrev main_call0_v77 : Ref sig .tc := ⟨.hbm, 122, rfl⟩
abbrev main_call0_cst_27 : Ref sig .tc := ⟨.hbm, 123, rfl⟩
abbrev main_call0_v78 : Ref sig .tc := ⟨.hbm, 124, rfl⟩
abbrev main_call0_v79 : Ref sig .tc := ⟨.hbm, 125, rfl⟩
abbrev main_call0_cst_28 : Ref sig .tc := ⟨.hbm, 126, rfl⟩
abbrev main_call0_v80 : Ref sig .tc := ⟨.hbm, 127, rfl⟩
abbrev main_call0_v81 : Ref sig .tc := ⟨.hbm, 128, rfl⟩
abbrev main_call0_v82 : Ref sig .tc := ⟨.hbm, 129, rfl⟩
abbrev main_call0_v83 : Ref sig .tc := ⟨.hbm, 130, rfl⟩
abbrev main_call0_v84 : Ref sig .tc := ⟨.hbm, 131, rfl⟩
abbrev main_call0_v85 : Ref sig .tc := ⟨.hbm, 132, rfl⟩
abbrev main_call0_v86 : Ref sig .tc := ⟨.hbm, 133, rfl⟩
abbrev main_call0_v87 : Ref sig .tc := ⟨.hbm, 134, rfl⟩
abbrev main_v0 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S129x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x129 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S129x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S129x1 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S129x64x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ReferenceIdeal.lean ====
abbrev S2048x256x129 : Shape := ⟨3, ![2048, 256, 129]⟩
abbrev S129x128 : Shape := ⟨2, ![129, 128]⟩
abbrev S128 : Shape := ⟨1, ![128]⟩
abbrev S1024x128 : Shape := ⟨2, ![1024, 128]⟩
abbrev S256x256 : Shape := ⟨2, ![256, 256]⟩
abbrev S256 : Shape := ⟨1, ![256]⟩
abbrev S2048x256 : Shape := ⟨2, ![2048, 256]⟩
abbrev S256x2048 : Shape := ⟨2, ![256, 2048]⟩
abbrev S2048 : Shape := ⟨1, ![2048]⟩
abbrev S128x1024 : Shape := ⟨2, ![128, 1024]⟩
abbrev S1024 : Shape := ⟨1, ![1024]⟩
abbrev S128x129 : Shape := ⟨2, ![128, 129]⟩
abbrev S129 : Shape := ⟨1, ![129]⟩
abbrev S2048x256x128 : Shape := ⟨3, ![2048, 256, 128]⟩
abbrev S1x1x128 : Shape := ⟨3, ![1, 1, 128]⟩
abbrev S_ : Shape := ⟨0, ![]⟩
abbrev S2048x32x1024 : Shape := ⟨3, ![2048, 32, 1024]⟩
abbrev S2048x32x128 : Shape := ⟨3, ![2048, 32, 128]⟩
abbrev S2048x16x256 : Shape := ⟨3, ![2048, 16, 256]⟩
abbrev S1x1x256 : Shape := ⟨3, ![1, 1, 256]⟩
abbrev S2048x2x2048 : Shape := ⟨3, ![2048, 2, 2048]⟩
abbrev S2048x2x256 : Shape := ⟨3, ![2048, 2, 256]⟩
abbrev S2048x1x512 : Shape := ⟨3, ![2048, 1, 512]⟩
abbrev S1x1x2048 : Shape := ⟨3, ![1, 1, 2048]⟩
abbrev S1x1x1024 : Shape := ⟨3, ![1, 1, 1024]⟩
abbrev S1x1x129 : Shape := ⟨3, ![1, 1, 129]⟩

abbrev nBuf : Space → Nat
  | .hbm => 121
  | .vmem => 0
  | .smem => 0
  | _ => 0

abbrev bufTy : (tb : Table) → Fin (tcTables nBuf tb) → BufTy
  | .hbm, ⟨0, _⟩ => ⟨S2048x256x129, .f32⟩
  | .hbm, ⟨1, _⟩ => ⟨S129x128, .f32⟩
  | .hbm, ⟨2, _⟩ => ⟨S128, .f32⟩
  | .hbm, ⟨3, _⟩ => ⟨S1024x128, .f32⟩
  | .hbm, ⟨4, _⟩ => ⟨S128, .f32⟩
  | .hbm, ⟨5, _⟩ => ⟨S256x256, .f32⟩
  | .hbm, ⟨6, _⟩ => ⟨S256, .f32⟩
  | .hbm, ⟨7, _⟩ => ⟨S2048x256, .f32⟩
  | .hbm, ⟨8, _⟩ => ⟨S256, .f32⟩
  | .hbm, ⟨9, _⟩ => ⟨S256x2048, .f32⟩
  | .hbm, ⟨10, _⟩ => ⟨S2048, .f32⟩
  | .hbm, ⟨11, _⟩ => ⟨S256x256, .f32⟩
  | .hbm, ⟨12, _⟩ => ⟨S256, .f32⟩
  | .hbm, ⟨13, _⟩ => ⟨S128x1024, .f32⟩
  | .hbm, ⟨14, _⟩ => ⟨S1024, .f32⟩
  | .hbm, ⟨15, _⟩ => ⟨S128x129, .f32⟩
  | .hbm, ⟨16, _⟩ => ⟨S129, .f32⟩
  | .hbm, ⟨17, _⟩ => ⟨S2048x256x128, .f32⟩
  | .hbm, ⟨18, _⟩ => ⟨S1x1x128, .f32⟩
  | .hbm, ⟨19, _⟩ => ⟨S2048x256x128, .f32⟩
  | .hbm, ⟨20, _⟩ => ⟨S2048x256x128, .f32⟩
  | .hbm, ⟨21, _⟩ => ⟨S2048x256x128, .f32⟩
  | .hbm, ⟨22, _⟩ => ⟨S2048x256x128, .f32⟩
  | .hbm, ⟨23, _⟩ => ⟨S_, .f32⟩
  | .hbm, ⟨24, _⟩ => ⟨S2048x256x128, .f32⟩
  | .hbm, ⟨25, _⟩ => ⟨S2048x256x128, .f32⟩
  | .hbm, ⟨26, _⟩ => ⟨S_, .f32⟩
  | .hbm, ⟨27, _⟩ => ⟨S2048x256x128, .f32⟩
  | .hbm, ⟨28, _⟩ => ⟨S2048x256x128, .f32⟩
  | .hbm, ⟨29, _⟩ => ⟨S2048x32x1024, .f32⟩
  | .hbm, ⟨30, _⟩ => ⟨S2048x32x128, .f32⟩
  | .hbm, ⟨31, _⟩ => ⟨S1x1x128, .f32⟩
  | .hbm, ⟨32, _⟩ => ⟨S2048x32x128, .f32⟩
  | .hbm, ⟨33, _⟩ => ⟨S2048x32x128, .f32⟩
  | .hbm, ⟨34, _⟩ => ⟨S2048x32x128, .f32⟩
  | .hbm, ⟨35, _⟩ => ⟨S2048x32x128, .f32⟩
  | .hbm, ⟨36, _⟩ => ⟨S_, .f32⟩
  | .hbm, ⟨37, _⟩ => ⟨S2048x32x128, .f32⟩
  | .hbm, ⟨38, _⟩ => ⟨S2048x32x128, .f32⟩
  | .hbm, ⟨39, _⟩ => ⟨S_, .f32⟩
  | .hbm, ⟨40, _⟩ => ⟨S2048x32x128, .f32⟩
  | .hbm, ⟨41, _⟩ => ⟨S2048x32x128, .f32⟩
  | .hbm, ⟨42, _⟩ => ⟨S2048x16x256, .f32⟩
  | .hbm, ⟨43, _⟩ => ⟨S2048x16x256, .f32⟩
  | .hbm, ⟨44, _⟩ => ⟨S1x1x256, .f32⟩
  | .hbm, ⟨45, _⟩ => ⟨S2048x16x256, .f32⟩
  | .hbm, ⟨46, _⟩ => ⟨S2048x16x256, .f32⟩
  | .hbm, ⟨47, _⟩ => ⟨S2048x16x256, .f32⟩
  | .hbm, ⟨48, _⟩ => ⟨S2048x16x256, .f32⟩
  | .hbm, ⟨49, _⟩ => ⟨S_, .f32⟩
  | .hbm, ⟨50, _⟩ => ⟨S2048x16x256, .f32⟩
  | .hbm, ⟨51, _⟩ => ⟨S2048x16x256, .f32⟩
  | .hbm, ⟨52, _⟩ => ⟨S_, .f32⟩
  | .hbm, ⟨53, _⟩ => ⟨S2048x16x256, .f32⟩
  | .hbm, ⟨54, _⟩ => ⟨S2048x16x256, .f32⟩
  | .hbm, ⟨55, _⟩ => ⟨S2048x2x2048, .f32⟩
  | .hbm, ⟨56, _⟩ => ⟨S2048x2x256, .f32⟩
  | .hbm, ⟨57, _⟩ => ⟨S1x1x256, .f32⟩
  | .hbm, ⟨58, _⟩ => ⟨S2048x2x256, .f32⟩
  | .hbm, ⟨59, _⟩ => ⟨S2048x2x256, .f32⟩
  | .hbm, ⟨60, _⟩ => ⟨S2048x2x256, .f32⟩
  | .hbm, ⟨61, _⟩ => ⟨S2048x2x256, .f32⟩
  | .hbm, ⟨62, _⟩ => ⟨S_, .f32⟩
  | .hbm, ⟨63, _⟩ => ⟨S2048x2x256, .f32⟩
  | .hbm, ⟨64, _⟩ => ⟨S2048x2x256, .f32⟩
  | .hbm, ⟨65, _⟩ => ⟨S_, .f32⟩
  | .hbm, ⟨66, _⟩ => ⟨S2048x2x256, .f32⟩
  | .hbm, ⟨67, _⟩ => ⟨S2048x2x256, .f32⟩
  | .hbm, ⟨68, _⟩ => ⟨S2048x1x512, .f32⟩
  | .hbm, ⟨69, _⟩ => ⟨S2048x2x256, .f32⟩
  | .hbm, ⟨70, _⟩ => ⟨S2048x2x2048, .f32⟩
  | .hbm, ⟨71, _⟩ => ⟨S1x1x2048, .f32⟩
  | .hbm, ⟨72, _⟩ => ⟨S2048x2x2048, .f32⟩
  | .hbm, ⟨73, _⟩ => ⟨S2048x2x2048, .f32⟩
  | .hbm, ⟨74, _⟩ => ⟨S2048x2x2048, .f32⟩
  | .hbm, ⟨75, _⟩ => ⟨S2048x2x2048, .f32⟩
  | .hbm, ⟨76, _⟩ => ⟨S_, .f32⟩
  | .hbm, ⟨77, _⟩ => ⟨S2048x2x2048, .f32⟩
  | .hbm, ⟨78, _⟩ => ⟨S2048x2x2048, .f32⟩
  | .hbm, ⟨79, _⟩ => ⟨S_, .f32⟩
  | .hbm, ⟨80, _⟩ => ⟨S2048x2x2048, .f32⟩
  | .hbm, ⟨81, _⟩ => ⟨S2048x2x2048, .f32⟩
  | .hbm, ⟨82, _⟩ => ⟨S2048x16x256, .f32⟩
  | .hbm, ⟨83, _⟩ => ⟨S2048x16x256, .f32⟩
  | .hbm, ⟨84, _⟩ => ⟨S1x1x256, .f32⟩
  | .hbm, ⟨85, _⟩ => ⟨S2048x16x256, .f32⟩
  | .hbm, ⟨86, _⟩ => ⟨S2048x16x256, .f32⟩
  | .hbm, ⟨87, _⟩ => ⟨S2048x16x256, .f32⟩
  | .hbm, ⟨88, _⟩ => ⟨S2048x16x256, .f32⟩
  | .hbm, ⟨89, _⟩ => ⟨S_, .f32⟩
  | .hbm, ⟨90, _⟩ => ⟨S2048x16x256, .f32⟩
  | .hbm, ⟨91, _⟩ => ⟨S2048x16x256, .f32⟩
  | .hbm, ⟨92, _⟩ => ⟨S_, .f32⟩
  | .hbm, ⟨93, _⟩ => ⟨S2048x16x256, .f32⟩
  | .hbm, ⟨94, _⟩ => ⟨S2048x16x256, .f32⟩
  | .hbm, ⟨95, _⟩ => ⟨S2048x32x128, .f32⟩
  | .hbm, ⟨96, _⟩ => ⟨S2048x32x1024, .f32⟩
  | .hbm, ⟨97, _⟩ => ⟨S1x1x1024, .f32⟩
  | .hbm, ⟨98, _⟩ => ⟨S2048x32x1024, .f32⟩
  | .hbm, ⟨99, _⟩ => ⟨S2048x32x1024, .f32⟩
  | .hbm, ⟨100, _⟩ => ⟨S2048x32x1024, .f32⟩
  | .hbm, ⟨101, _⟩ => ⟨S2048x32x1024, .f32⟩
  | .hbm, ⟨102, _⟩ => ⟨S_, .f32⟩
  | .hbm, ⟨103, _⟩ => ⟨S2048x32x1024, .f32⟩
  | .hbm, ⟨104, _⟩ => ⟨S2048x32x1024, .f32⟩
  | .hbm, ⟨105, _⟩ => ⟨S_, .f32⟩
  | .hbm, ⟨106, _⟩ => ⟨S2048x32x1024, .f32⟩
  | .hbm, ⟨107, _⟩ => ⟨S2048x32x1024, .f32⟩
  | .hbm, ⟨108, _⟩ => ⟨S2048x256x128, .f32⟩
  | .hbm, ⟨109, _⟩ => ⟨S2048x256x129, .f32⟩
  | .hbm, ⟨110, _⟩ => ⟨S1x1x129, .f32⟩
  | .hbm, ⟨111, _⟩ => ⟨S2048x256x129, .f32⟩
  | .hbm, ⟨112, _⟩ => ⟨S2048x256x129, .f32⟩
  | .hbm, ⟨113, _⟩ => ⟨S2048x256x129, .f32⟩
  | .hbm, ⟨114, _⟩ => ⟨S2048x256x129, .f32⟩
  | .hbm, ⟨115, _⟩ => ⟨S_, .f32⟩
  | .hbm, ⟨116, _⟩ => ⟨S2048x256x129, .f32⟩
  | .hbm, ⟨117, _⟩ => ⟨S2048x256x129, .f32⟩
  | .hbm, ⟨118, _⟩ => ⟨S_, .f32⟩
  | .hbm, ⟨119, _⟩ => ⟨S2048x256x129, .f32⟩
  | .hbm, ⟨120, _⟩ => ⟨S2048x256x129, .f32⟩
  | _, _ => ⟨S2048x256x129, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_1 : Ref sig .tc := ⟨.hbm, 36, rfl⟩
abbrev main_v17 : Ref sig .tc := ⟨.hbm, 37, rfl⟩
abbrev main_v18 : Ref sig .tc := ⟨.hbm, 38, rfl⟩
abbrev main_cst_2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_5 : Ref sig .tc := ⟨.hbm, 62, rfl⟩
abbrev main_v39 : Ref sig .tc := ⟨.hbm, 63, rfl⟩
abbrev main_v40 : Ref sig .tc := ⟨.hbm, 64, rfl⟩
abbrev main_cst_6 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_7 : Ref sig .tc := ⟨.hbm, 76, rfl⟩
abbrev main_v51 : Ref sig .tc := ⟨.hbm, 77, rfl⟩
abbrev main_v52 : Ref sig .tc := ⟨.hbm, 78, rfl⟩
abbrev main_cst_8 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_9 : Ref sig .tc := ⟨.hbm, 89, rfl⟩
abbrev main_v62 : Ref sig .tc := ⟨.hbm, 90, rfl⟩
abbrev main_v63 : Ref sig .tc := ⟨.hbm, 91, rfl⟩
abbrev main_cst_10 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_11 : Ref sig .tc := ⟨.hbm, 102, rfl⟩
abbrev main_v73 : Ref sig .tc := ⟨.hbm, 103, rfl⟩
abbrev main_v74 : Ref sig .tc := ⟨.hbm, 104, rfl⟩
abbrev main_cst_12 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_13 : Ref sig .tc := ⟨.hbm, 115, rfl⟩
abbrev main_v84 : Ref sig .tc := ⟨.hbm, 116, rfl⟩
abbrev main_v85 : Ref sig .tc := ⟨.hbm, 117, rfl⟩
abbrev main_cst_14 : Ref sig .tc := ⟨.hbm, 118, rfl⟩
abbrev main_v86 : Ref sig .tc := ⟨.hbm, 119, rfl⟩
abbrev main_v87 : Ref sig .tc := ⟨.hbm, 120, rfl⟩

abbrev nD : Nat := 1
abbrev τ : Topo := Topo.v7x

variable {F : FTy → Type} [FloatOps F]
-- ==== Proof.Scalar.lean ====
/- Arithmetic of one output element over the extended reals: the logistic function written with a hyperbolic tangent,
   and the two ways the kernel folds that rewriting into a dense layer's weights and bias. -/
module

public import Idealize.ShloMosaic.PureOps.Ideal.Laws

@[expose] public section

noncomputable section

namespace Cert.Chain

open Idealize.ShloMosaic
open scoped BigOperators

/-- The number one half as an extended real. -/
def half : EReal := ((1 / 2 : ℝ) : EReal)
/-- The number one quarter as an extended real. -/
def quarter : EReal := ((1 / 4 : ℝ) : EReal)

/-- The `f32` word `0x3F000000` is one half. -/
theorem ofBits_half_f32 : Ideal.ofBits .f32 0x3F000000#32 = half := by
  simp [Ideal.ofBits, Ideal.ieee, half, -EReal.coe_mul]; norm_num
/-- The `bf16` word `0x3F00` is one half. -/
theorem ofBits_half_bf16 : Ideal.ofBits .bf16 0x3F00#16 = half := by
  simp [Ideal.ofBits, Ideal.ieee, half, -EReal.coe_mul]; norm_num
/-- The `f32` word `0x3E800000` is one quarter. -/
theorem ofBits_quarter_f32 : Ideal.ofBits .f32 0x3E800000#32 = quarter := by
  simp [Ideal.ofBits, Ideal.ieee, quarter, -EReal.coe_mul]; norm_num
/-- The `f32` word `0x3F800000` is one. -/
theorem ofBits_one_f32 : Ideal.ofBits .f32 0x3F800000#32 = 1 := by
  simp [Ideal.ofBits, Ideal.ieee, -EReal.coe_mul]; norm_num
/-- The `f32` word `0x7F800000` is plus infinity. -/
theorem ofBits_inf_f32 : Ideal.ofBits .f32 0x7F800000#32 = ⊤ := by
  simp [Ideal.ofBits, Ideal.ieee]

/-- The hyperbolic tangent of an extended real is a real number. -/
theorem tanh_real (z : EReal) : ∃ t : ℝ, Ideal.tanh z = (t : EReal) := by
  induction z with
  | bot => exact ⟨-1, by simp⟩
  | top => exact ⟨1, by simp⟩
  | coe r => exact ⟨Real.tanh r, by simp⟩

/-- For real numbers the logistic function is `½·tanh(z/2) + ½`. -/
theorem real_logistic (r : ℝ) : (1 + Real.exp (-r))⁻¹ = 1 / 2 * Real.tanh (1 / 2 * r) + 1 / 2 := by
  have e : Real.exp (-r) = Real.exp (-(1 / 2 * r)) * Real.exp (-(1 / 2 * r)) := by
    rw [← Real.exp_add]; congr 1; ring
  have p := Real.exp_pos (1 / 2 * r)
  rw [Real.tanh_eq_sinh_div_cosh, Real.sinh_eq, Real.cosh_eq, e, Real.exp_neg]
  have : Real.exp (1 / 2 * r) ≠ 0 := p.ne'
  have h2 : Real.exp (1 / 2 * r) ^ 2 + 1 ≠ 0 := by positivity
  field_simp
  ring

/-- For every extended real `z` the logistic function is `½·tanh(½·z) + ½`. -/
theorem logistic_eq (z : EReal) : Ideal.logistic z = half * Ideal.tanh (half * z) + half := by
  induction z with
  | bot =>
    rw [half, EReal.coe_mul_bot_of_pos (by norm_num), Ideal.logistic_bot, Ideal.tanh_bot]
    rw [show (-1 : EReal) = ((-1 : ℝ) : EReal) by norm_num, ← EReal.coe_mul, ← EReal.coe_add]; norm_num
  | top =>
    rw [half, EReal.coe_mul_top_of_pos (by norm_num), Ideal.logistic_top, Ideal.tanh_top]
    rw [show (1 : EReal) = ((1 : ℝ) : EReal) by norm_num, ← EReal.coe_mul, ← EReal.coe_add]; norm_num
  | coe r =>
    rw [half, ← EReal.coe_mul, Ideal.logistic_coe, Ideal.tanh_coe, ← EReal.coe_mul, ← EReal.coe_add, real_logistic]

/-- Multiplying by one half distributes over a sum of two extended reals. -/
theorem half_add (a b : EReal) : half * (a + b) = half * a + half * b :=
  EReal.left_distrib_of_nonneg_of_ne_top (EReal.coe_nonneg.mpr (by norm_num : (0 : ℝ) ≤ 1 / 2)) (EReal.coe_ne_top _) a b

/-- Multiplying by one half distributes over a finite sum of extended reals. -/
theorem half_sum {ι : Type*} (s : Finset ι) (f : ι → EReal) : half * ∑ k ∈ s, f k = ∑ k ∈ s, half * f k := by
  classical
  induction s using Finset.induction_on with
  | empty => simp
  | insert a s ha ih => rw [Finset.sum_insert ha, Finset.sum_insert ha, half_add, ih]

/-- The first layer: halving every weight and the bias halves the layer's sum, whatever extended reals it is made of. -/
theorem first_fold {n : ℕ} (x w : Fin n → EReal) (b : EReal) :
    ∑ k, x k * (w k * half) + b * half = half * (∑ k, x k * w k + b) := by
  rw [half_add, half_sum, mul_comm b]
  refine congrArg (· + half * b) (Finset.sum_congr rfl fun k _ => ?_)
  rw [mul_comm half, mul_assoc]

/-- A sum of real numbers read as extended reals is the sum of them as extended reals. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A later layer: with real weights `w` and a previous activation `½·t + ½` for real `t`, carrying `t` through
    quarter weights and adding a quarter of the weights' sum and half the bias gives half the layer's sum. -/
theorem later_fold {n : ℕ} (t w : Fin n → ℝ) (b : EReal) :
    ∑ k, (t k : EReal) * ((w k : EReal) * quarter) + ((∑ k, (w k : EReal)) * quarter + b * half)
      = half * (∑ k, (half * (t k : EReal) + half) * (w k : EReal) + b) := by
  rw [half_add, ← add_assoc, mul_comm b]
  refine congrArg (· + half * b) ?_
  simp only [half, quarter, ← EReal.coe_mul, ← EReal.coe_add, ← coe_sum]
  congr 1
  rw [Finset.sum_mul, Finset.mul_sum, ← Finset.sum_add_distrib]
  exact Finset.sum_congr rfl fun k _ => by ring

end Cert.Chain

end
-- ==== Proof.Flat.lean ====
/- Arrays read at a row-major position. A reshape keeps every element's row-major position, so an array and its
   reshape are one function of the position; the layers of both programs are compared on these functions. -/
module

public import proofs.«01_k».proof.Proof.Scalar
public import Idealize.ShloMosaic.Lib.ValueIdx
public import Idealize.ShloMosaic.Lib.MatmulPlain
public import Idealize.ShloMosaic.Lib.ValueLayout
public import Idealize.ShloMosaic.Lib.Pipeline.Value

@[expose] public section

noncomputable section

namespace Cert.Chain

open Idealize.ShloMosaic Idealize.ShloMosaic.ValueIdx
open scoped BigOperators

/-- The element of an array at a row-major position, zero past the last one. -/
def flat {s : Shape} (x : s.Idx → EReal) (n : ℕ) : EReal := if h : n < s.numel then x (s.rowMajor.symm ⟨n, h⟩) else 0

/-- The element at an index is the element at the index's row-major position. -/
theorem flat_idx {s : Shape} (x : s.Idx → EReal) (i : s.Idx) : flat x (s.rowMajor i).val = x i := by
  rw [flat, dif_pos (s.rowMajor i).isLt, Fin.eta, Equiv.symm_apply_apply]

/-- A reshape keeps the element at every row-major position. -/
theorem flat_shapeCast {s t : Shape} (x : s.Idx → EReal) (h : s.ShapeCasts t) : flat (shapeCast t x h) = flat x := by
  funext n
  by_cases hn : n < t.numel
  · have e : n = (t.rowMajor (t.rowMajor.symm ⟨n, hn⟩)).val := by rw [Equiv.apply_symm_apply]
    have e' : n = (s.rowMajor (Shape.reshapeEquiv h (t.rowMajor.symm ⟨n, hn⟩))).val := by
      rw [Shape.rowMajor_reshapeEquiv]; exact e
    conv_lhs => rw [e, flat_idx]
    conv_rhs => rw [e', flat_idx]
    rfl
  · have hs : ¬n < s.numel := by have : t.numel = s.numel := h; omega
    rw [flat, flat, dif_neg hn, dif_neg hs]

/-- A two-axis array at row `r`, column `c`. -/
theorem flat_two {M N : ℕ} (x : (⟨2, ![M, N]⟩ : Shape).Idx → EReal) (r : Fin M) (c : Fin N) :
    flat x (r.val * N + c.val) = x (ix2 r c) := by
  rw [← flat_idx x (ix2 r c), Shape.rowMajor_val_two]; rfl

/-- A three-axis array at `(i, j, k)`. -/
theorem flat_three {A B C : ℕ} (x : (⟨3, ![A, B, C]⟩ : Shape).Idx → EReal) (i : Fin A) (j : Fin B) (k : Fin C) :
    flat x ((i.val * B + j.val) * C + k.val) = x (ix3 i j k) := by
  rw [← flat_idx x (ix3 i j k), Shape.rowMajor_val_three]; rfl

/-- `H'` is a dense layer of `H` in its first `M` rows: each row of `D` values is the logistic function of the row of
    `K` values of `H` times the weights, plus the bias. -/
def Dense (M K D : ℕ) (H H' : ℕ → EReal) (w : Fin K → Fin D → EReal) (b : Fin D → EReal) : Prop :=
  ∀ r < M, ∀ c : Fin D, H' (r * D + c.val) = Ideal.logistic (∑ k : Fin K, H (r * K + k.val) * w k c + b c)

/-- The same with the hyperbolic tangent in the logistic function's place. -/
def TDense (M K D : ℕ) (T T' : ℕ → EReal) (w : Fin K → Fin D → EReal) (b : Fin D → EReal) : Prop :=
  ∀ r < M, ∀ c : Fin D, T' (r * D + c.val) = Ideal.tanh (∑ k : Fin K, T (r * K + k.val) * w k c + b c)

/-- From position `o` of `H` on, `N` values of `H` are `½·t + ½` for the values `t` of `T`, each a real number. -/
def Agree (o N : ℕ) (T H : ℕ → EReal) : Prop :=
  ∀ f < N, (∃ t : ℝ, T f = (t : EReal)) ∧ H (o + f) = half * T f + half

/-- One later layer keeps the agreement: block `t` of `M` rows of the reference's layer against the kernel's block. -/
theorem Agree.step {t R M K D : ℕ} {T T' H H' : ℕ → EReal} {w w' : Fin K → Fin D → EReal} {b b' : Fin D → EReal}
    (h : Agree (t * (M * K)) (M * K) T H) (hH : Dense R K D H H' w b) (hR : t * M + M ≤ R) (hT : TDense M K D T T' w' b')
    (hw : ∀ k c, ∃ r : ℝ, w k c = (r : EReal)) (hw' : ∀ k c, w' k c = w k c * quarter)
    (hb' : ∀ c, b' c = (∑ k, w k c) * quarter + b c * half) : Agree (t * (M * D)) (M * D) T' H' := by
  intro f hf
  have hD : 0 < D := by rcases Nat.eq_zero_or_pos D with h0 | h0 <;> [(subst h0; simp at hf); exact h0]
  have hr : f / D < M := Nat.div_lt_of_lt_mul (by rw [Nat.mul_comm]; exact hf)
  have hf' : f = f / D * D + (⟨f % D, Nat.mod_lt _ hD⟩ : Fin D).val := (Nat.div_add_mod' f D).symm
  have ho : t * (M * D) + f = (t * M + f / D) * D + (⟨f % D, Nat.mod_lt _ hD⟩ : Fin D).val := by
    conv_lhs => rw [hf']
    ring
  generalize (⟨f % D, Nat.mod_lt _ hD⟩ : Fin D) = c at hf' ho
  generalize f / D = r at hr hf' ho
  rw [ho, hf', hT r hr c, hH (t * M + r) (by omega) c]
  refine ⟨tanh_real _, ?_⟩
  rw [logistic_eq]
  have hk : ∀ k : Fin K, r * K + k.val < M * K := fun k =>
    calc r * K + k.val < r * K + K := by omega
      _ = (r + 1) * K := by ring
      _ ≤ M * K := Nat.mul_le_mul_right K hr
  choose τ hτ using fun k : Fin K => (h (r * K + k.val) (hk k)).1
  choose ω hω using fun k : Fin K => hw k c
  have hsum : ∑ k : Fin K, H ((t * M + r) * K + k.val) * w k c = ∑ k : Fin K, (half * (τ k : EReal) + half) * (ω k : EReal) :=
    Finset.sum_congr rfl fun k _ => by
      rw [show (t * M + r) * K + k.val = t * (M * K) + (r * K + k.val) by ring, (h _ (hk k)).2, hτ, hω]
  have hsum' : ∑ k : Fin K, T (r * K + k.val) * w' k c = ∑ k : Fin K, (τ k : EReal) * ((ω k : EReal) * quarter) :=
    Finset.sum_congr rfl fun k _ => by rw [hτ, hw', hω]
  have hsw : ∑ k : Fin K, w k c = ∑ k : Fin K, (ω k : EReal) := Finset.sum_congr rfl fun k _ => hω k
  rw [hsum, hsum', hb', hsw, later_fold]

/-- A kernel layer's array: the product onto zero, the bias row broadcast over the rows, the hyperbolic tangent. -/
theorem tdense_of {M K D : ℕ} {d : DotDims ⟨2, ![M, K]⟩ ⟨2, ![K, D]⟩ ⟨2, ![M, D]⟩} (hd : d = DotDims.plain M K D)
    (T : FVec Ideal ⟨2, ![M, K]⟩ .bf16) (w : FVec Ideal ⟨2, ![K, D]⟩ .bf16) (b : FVec Ideal ⟨2, ![1, D]⟩ .bf16)
    (hb : (⟨2, ![1, D]⟩ : Shape).Broadcasts ⟨2, ![M, D]⟩) (ht : FTy.bf16.bits < FTy.f32.bits) :
    TDense M K D (flat T)
      (flat (tanh (addf (truncf .bf16 (matmul d none T w (constant (F := Ideal) ⟨2, ![M, D]⟩ .f32 0x00000000#32)) ht)
        (broadcastTo ⟨2, ![M, D]⟩ b hb) : FVec Ideal ⟨2, ![M, D]⟩ .bf16)))
      (fun k c => w (ix2 k c)) (fun c => b (ix2 0 c)) := by
  subst hd
  intro r hr c
  refine (flat_two _ ⟨r, hr⟩ c).trans ?_
  have hm := Ideal.matmul_plain_apply none T w (constant (F := Ideal) ⟨2, ![M, D]⟩ .f32 0x00000000#32) ⟨r, hr⟩ c
  show Ideal.tanh (FloatOps.matmul (DotDims.plain M K D) none T w (constant (F := Ideal) ⟨2, ![M, D]⟩ .f32 0x00000000#32) (ix2 ⟨r, hr⟩ c)
    + broadcastTo ⟨2, ![M, D]⟩ b hb (ix2 ⟨r, hr⟩ c)) = _
  rw [hm, constant_apply, Ideal.ofBits_zero_f32, zero_add]
  have e : broadcastTo ⟨2, ![M, D]⟩ b hb (ix2 ⟨r, hr⟩ c) = b (ix2 0 c) := broadcastTo_1b_ab_apply ..
  rw [e]
  refine congrArg (fun z => Ideal.tanh (z + b (ix2 0 c))) (Finset.sum_congr rfl fun k _ => ?_)
  rw [← flat_two T ⟨r, hr⟩ k]

end Cert.Chain

end
-- ==== Proof.HostPrefix.lean ====
/- The arrays the kernel's launch reads: what the host operations before it leave in them, element by element, in terms
   of the program's arguments. The input is transposed; the first layer's weights and bias are halved; every later
   layer's weights are quartered and its bias is a quarter of the weights' column sums plus half the bias. -/
module

public import proofs.«01_k».proof.Proof.Flat
public import proofs.«01_k».proof.Proof.Gen.KernelIdeal.Frame
public import Idealize.ShloMosaic.Lib.StableHlo.RunRead
public import Idealize.ShloMosaic.Lib.Pipeline.Value
public import Idealize.ShloMosaic.Lib.IdealHost
public import Idealize.ShloMosaic.Lib.Pointwise.Reduce

@[expose] public section

noncomputable section

namespace Cert.Chain

open Idealize.ShloMosaic hiding ix0 ix1 ix2 ix3 eq_ix1 eq_ix2 eq_ix3
open Idealize.ShloMosaic.TcCoe Idealize.ShloMosaic.ValueIdx Idealize.SL.Sem
open Cert.KernelIdeal Cert.KernelIdeal.Gen
open scoped BigOperators

/-- An array times a scalar constant, as the host writes it. -/
def scaled {s : Shape} (h : S_.BroadcastsInDim s ![]) (word : BitVec 32) (x : FVec Ideal s .f32) : FVec Ideal s .f32 :=
  mulf x (broadcastInDim s ![] h (constant (F := Ideal) S_ .f32 word))

/-- A later layer's bias as the host writes it: the weights' column sums times a quarter, plus half the bias. -/
def foldedBias {K D : ℕ} (hW : (⟨2, ![K, D]⟩ : Shape).ReducesTo [0] ⟨1, ![D]⟩) (h : S_.BroadcastsInDim ⟨1, ![D]⟩ ![])
    (W : FVec Ideal ⟨2, ![K, D]⟩ .f32) (b : FVec Ideal ⟨1, ![D]⟩ .f32) : FVec Ideal ⟨1, ![D]⟩ .bf16 :=
  truncf .bf16 (addf (scaled h 0x3E800000#32 (Host.reduceAdd W (constant (F := Ideal) S_ .f32 0x00000000#32) hW h_S_))
    (scaled h 0x3F000000#32 b)) bitsLt_bf16_f32

/-- An array scaled by a constant, at an index. -/
theorem scaled_apply {s : Shape} (h : S_.BroadcastsInDim s ![]) (word : BitVec 32) (x : FVec Ideal s .f32) (i : s.Idx) :
    scaled h word x i = x i * Ideal.ofBits .f32 word := by
  unfold scaled
  rw [mulf_apply, broadcastInDim_apply ![] h _ i ix0 (fun a => a.elim0), constant_apply]

/-- A later layer's folded bias, at an index. -/
theorem foldedBias_apply {K D : ℕ} (hW : (⟨2, ![K, D]⟩ : Shape).ReducesTo [0] ⟨1, ![D]⟩) (h : S_.BroadcastsInDim ⟨1, ![D]⟩ ![])
    (W : FVec Ideal ⟨2, ![K, D]⟩ .f32) (b : FVec Ideal ⟨1, ![D]⟩ .f32) (d : Fin D) :
    foldedBias hW h W b (ix1 d) = (∑ k : Fin K, W (ix2 k d)) * quarter + b (ix1 d) * half := by
  unfold foldedBias
  rw [truncf_apply, addf_apply, scaled_apply, scaled_apply, hostReduceAdd_apply, Ideal.hostReduceAdd_r2_a0, constant_apply,
    Ideal.ofBits_zero_f32, zero_add, ofBits_half_f32, ofBits_quarter_f32]
  exact congrArg (fun z => z * quarter + b (ix1 d) * half) (Finset.sum_congr rfl fun k _ => congrArg W (eq_ix2 _))

/-- A row of `D` values read as a one-row array. -/
theorem row_apply {α : Type} {D : ℕ} (x : (⟨1, ![D]⟩ : Shape).Idx → α) (h : (⟨1, ![D]⟩ : Shape).ShapeCasts ⟨2, ![1, D]⟩) (d : Fin D) :
    shapeCast ⟨2, ![1, D]⟩ x h (ix2 0 d) = x (ix1 d) :=
  shapeCast_apply x h _ _ (by rw [Shape.rowMajor_val_one, Shape.rowMajor_val_two]; show d.val = 0 * D + d.val; rw [Nat.zero_mul, Nat.zero_add])

/-- A row of `D` values read as a one-column array. -/
theorem column_apply {α : Type} {D : ℕ} (x : (⟨1, ![D]⟩ : Shape).Idx → α) (h : (⟨1, ![D]⟩ : Shape).ShapeCasts ⟨2, ![D, 1]⟩) (d : Fin D) :
    shapeCast ⟨2, ![D, 1]⟩ x h (ix2 d 0) = x (ix1 d) :=
  shapeCast_apply x h _ _ (by rw [Shape.rowMajor_val_one, Shape.rowMajor_val_two]; show d.val = d.val * 1 + 0; rw [Nat.mul_one, Nat.add_zero])

variable (m : (ℓ : Loc nD τ sig) → Buf (Elt Ideal) ℓ) (c : Dev nD)

/-- The launch's first array is the input with its last axis first. -/
theorem V_input : @Eq (FVec Ideal S129x2048x256 .f32) (V m c main_call0_v0)
    (transpose S129x2048x256 [2, 0, 1] (m ((c : Thread nD τ).loc main_arg0)) transposes_S2048x256x129_S129x2048x256_2_0_1) := by
  unfold V V0 hostOps0
  after_reads_simp
  rfl

/-- The first layer's weights: halved and transposed. -/
theorem V_weights0 : @Eq (FVec Ideal S128x129 .bf16) (V m c main_call0_v6)
    (truncf .bf16 (transpose S128x129 [1, 0] (scaled bcast_S_S129x128 0x3F000000#32 (m ((c : Thread nD τ).loc main_arg1)))
      transposes_S129x128_S128x129_1_0) bitsLt_bf16_f32) := by
  unfold V V0 hostOps0
  after_reads_simp
  rfl

/-- The first layer's bias: halved. -/
theorem V_bias0 : @Eq (FVec Ideal S1x128 .bf16) (V m c main_call0_v8)
    (shapeCast S1x128 (truncf .bf16 (scaled bcast_S_S128 0x3F000000#32 (m ((c : Thread nD τ).loc main_arg2))) bitsLt_bf16_f32)
      shapeCasts_S128_S1x128) := by
  unfold V V0 hostOps0
  after_reads_simp
  rfl

/-- The second layer's weights: a quarter of the argument. -/
theorem V_weights1 : @Eq (FVec Ideal S1024x128 .bf16) (V m c main_call0_v17)
    (truncf .bf16 (scaled bcast_S_S1024x128 0x3E800000#32 (m ((c : Thread nD τ).loc main_arg3))) bitsLt_bf16_f32) := by
  unfold V V0 hostOps0
  after_reads_simp
  rfl

/-- The second layer's folded bias. -/
theorem V_bias1 : @Eq (FVec Ideal S1x128 .bf16) (V m c main_call0_v19)
    (shapeCast S1x128 (foldedBias reducesTo_S1024x128_S128_d0 bcast_S_S128 (m ((c : Thread nD τ).loc main_arg3))
      (m ((c : Thread nD τ).loc main_arg4))) shapeCasts_S128_S1x128) := by
  unfold V V0 hostOps0
  after_reads_simp
  rfl

/-- The third layer's weights: a quarter of the argument. -/
theorem V_weights2 : @Eq (FVec Ideal S256x256 .bf16) (V m c main_call0_v28)
    (truncf .bf16 (scaled bcast_S_S256x256 0x3E800000#32 (m ((c : Thread nD τ).loc main_arg5))) bitsLt_bf16_f32) := by
  unfold V V0 hostOps0
  after_reads_simp
  rfl

/-- The third layer's folded bias. -/
theorem V_bias2 : @Eq (FVec Ideal S1x256 .bf16) (V m c main_call0_v30)
    (shapeCast S1x256 (foldedBias reducesTo_S256x256_S256_d0 bcast_S_S256 (m ((c : Thread nD τ).loc main_arg5))
      (m ((c : Thread nD τ).loc main_arg6))) shapeCasts_S256_S1x256) := by
  unfold V V0 hostOps0
  after_reads_simp
  rfl

/-- The fourth layer's weights: a quarter of the argument. -/
theorem V_weights3 : @Eq (FVec Ideal S2048x256 .bf16) (V m c main_call0_v39)
    (truncf .bf16 (scaled bcast_S_S2048x256 0x3E800000#32 (m ((c : Thread nD τ).loc main_arg7))) bitsLt_bf16_f32) := by
  unfold V V0 hostOps0
  after_reads_simp
  rfl

/-- The fourth layer's folded bias. -/
theorem V_bias3 : @Eq (FVec Ideal S1x256 .bf16) (V m c main_call0_v41)
    (shapeCast S1x256 (foldedBias reducesTo_S2048x256_S256_d0 bcast_S_S256 (m ((c : Thread nD τ).loc main_arg7))
      (m ((c : Thread nD τ).loc main_arg8))) shapeCasts_S256_S1x256) := by
  unfold V V0 hostOps0
  after_reads_simp
  rfl

/-- The fifth layer's weights: a quarter of the argument. -/
theorem V_weights4 : @Eq (FVec Ideal S256x2048 .bf16) (V m c main_call0_v50)
    (truncf .bf16 (scaled bcast_S_S256x2048 0x3E800000#32 (m ((c : Thread nD τ).loc main_arg9))) bitsLt_bf16_f32) := by
  unfold V V0 hostOps0
  after_reads_simp
  rfl

/-- The fifth layer's folded bias. -/
theorem V_bias4 : @Eq (FVec Ideal S1x2048 .bf16) (V m c main_call0_v52)
    (shapeCast S1x2048 (foldedBias reducesTo_S256x2048_S2048_d0 bcast_S_S2048 (m ((c : Thread nD τ).loc main_arg9))
      (m ((c : Thread nD τ).loc main_arg10))) shapeCasts_S2048_S1x2048) := by
  unfold V V0 hostOps0
  after_reads_simp
  rfl

/-- The sixth layer's weights: a quarter of the argument. -/
theorem V_weights5 : @Eq (FVec Ideal S256x256 .bf16) (V m c main_call0_v61)
    (truncf .bf16 (scaled bcast_S_S256x256 0x3E800000#32 (m ((c : Thread nD τ).loc main_arg11))) bitsLt_bf16_f32) := by
  unfold V V0 hostOps0
  after_reads_simp
  rfl

/-- The sixth layer's folded bias. -/
theorem V_bias5 : @Eq (FVec Ideal S1x256 .bf16) (V m c main_call0_v63)
    (shapeCast S1x256 (foldedBias reducesTo_S256x256_S256_d0 bcast_S_S256 (m ((c : Thread nD τ).loc main_arg11))
      (m ((c : Thread nD τ).loc main_arg12))) shapeCasts_S256_S1x256) := by
  unfold V V0 hostOps0
  after_reads_simp
  rfl

/-- The seventh layer's weights: a quarter of the argument. -/
theorem V_weights6 : @Eq (FVec Ideal S128x1024 .bf16) (V m c main_call0_v72)
    (truncf .bf16 (scaled bcast_S_S128x1024 0x3E800000#32 (m ((c : Thread nD τ).loc main_arg13))) bitsLt_bf16_f32) := by
  unfold V V0 hostOps0
  after_reads_simp
  rfl

/-- The seventh layer's folded bias. -/
theorem V_bias6 : @Eq (FVec Ideal S1x1024 .bf16) (V m c main_call0_v74)
    (shapeCast S1x1024 (foldedBias reducesTo_S128x1024_S1024_d0 bcast_S_S1024 (m ((c : Thread nD τ).loc main_arg13))
      (m ((c : Thread nD τ).loc main_arg14))) shapeCasts_S1024_S1x1024) := by
  unfold V V0 hostOps0
  after_reads_simp
  rfl

/-- The eighth layer's weights: a quarter of the argument, transposed. -/
theorem V_weights7 : @Eq (FVec Ideal S129x128 .bf16) (V m c main_call0_v84)
    (truncf .bf16 (transpose S129x128 [1, 0] (scaled bcast_S_S128x129 0x3E800000#32 (m ((c : Thread nD τ).loc main_arg15)))
      transposes_S128x129_S129x128_1_0) bitsLt_bf16_f32) := by
  unfold V V0 hostOps0
  after_reads_simp
  rfl

/-- The eighth layer's folded bias. -/
theorem V_bias7 : @Eq (FVec Ideal S129x1 .bf16) (V m c main_call0_v86)
    (shapeCast S129x1 (foldedBias reducesTo_S128x129_S129_d0 bcast_S_S129 (m ((c : Thread nD τ).loc main_arg15))
      (m ((c : Thread nD τ).loc main_arg16))) shapeCasts_S129_S129x1) := by
  unfold V V0 hostOps0
  after_reads_simp
  rfl

end Cert.Chain

end
-- ==== Proof.Blocks.lean ====
/- The blocks the kernel's body is given at a grid point, element by element, in terms of the program's arguments: block
   `t` of the transposed input is inputs `64·t` to `64·t + 63`; every other operand is given whole at every point. -/
module

public import proofs.«01_k».proof.Proof.HostPrefix
public import Idealize.ShloMosaic.Lib.Pipeline.ValueKit

@[expose] public section

set_option maxRecDepth 16384

noncomputable section

namespace Cert.Chain

open Idealize.ShloMosaic hiding ix0 ix1 ix2 ix3 eq_ix1 eq_ix2 eq_ix3 truncf_apply
open Idealize.ShloMosaic.TcCoe Idealize.ShloMosaic.ValueIdx Idealize.SL.Sem
open Cert.KernelIdeal Cert.KernelIdeal.Gen
open scoped BigOperators

/-- Window 0 (the input) is at block `(0, t, 0)` at grid point `t`. -/
theorem index_input : ∀ t : Fin cfg0.N, win0_0.index t = ![0, t.val, 0] := (by decide +kernel : ∀ t : Fin grid0.N, _)

/-- Window 17 (the result) is at block `(0, t, 0)` at grid point `t`. -/
theorem index_result : ∀ t : Fin cfg0.N, win0_17.index t = ![0, t.val, 0] := (by decide +kernel : ∀ t : Fin grid0.N, _)

variable (m : (ℓ : Loc nD τ sig) → Buf (Elt Ideal) ℓ) (c : Dev nD)

/-- Argument 0 of the program. -/
abbrev arg0 : FVec Ideal S2048x256x129 .f32 := m ((c : Thread nD τ).loc main_arg0)

/-- Argument 1 of the program. -/
abbrev arg1 : FVec Ideal S129x128 .f32 := m ((c : Thread nD τ).loc main_arg1)

/-- Argument 2 of the program. -/
abbrev arg2 : FVec Ideal S128 .f32 := m ((c : Thread nD τ).loc main_arg2)

/-- Argument 3 of the program. -/
abbrev arg3 : FVec Ideal S1024x128 .f32 := m ((c : Thread nD τ).loc main_arg3)

/-- Argument 4 of the program. -/
abbrev arg4 : FVec Ideal S128 .f32 := m ((c : Thread nD τ).loc main_arg4)

/-- Argument 5 of the program. -/
abbrev arg5 : FVec Ideal S256x256 .f32 := m ((c : Thread nD τ).loc main_arg5)

/-- Argument 6 of the program. -/
abbrev arg6 : FVec Ideal S256 .f32 := m ((c : Thread nD τ).loc main_arg6)

/-- Argument 7 of the program. -/
abbrev arg7 : FVec Ideal S2048x256 .f32 := m ((c : Thread nD τ).loc main_arg7)

/-- Argument 8 of the program. -/
abbrev arg8 : FVec Ideal S256 .f32 := m ((c : Thread nD τ).loc main_arg8)

/-- Argument 9 of the program. -/
abbrev arg9 : FVec Ideal S256x2048 .f32 := m ((c : Thread nD τ).loc main_arg9)

/-- Argument 10 of the program. -/
abbrev arg10 : FVec Ideal S2048 .f32 := m ((c : Thread nD τ).loc main_arg10)

/-- Argument 11 of the program. -/
abbrev arg11 : FVec Ideal S256x256 .f32 := m ((c : Thread nD τ).loc main_arg11)

/-- Argument 12 of the program. -/
abbrev arg12 : FVec Ideal S256 .f32 := m ((c : Thread nD τ).loc main_arg12)

/-- Argument 13 of the program. -/
abbrev arg13 : FVec Ideal S128x1024 .f32 := m ((c : Thread nD τ).loc main_arg13)

/-- Argument 14 of the program. -/
abbrev arg14 : FVec Ideal S1024 .f32 := m ((c : Thread nD τ).loc main_arg14)

/-- Argument 15 of the program. -/
abbrev arg15 : FVec Ideal S128x129 .f32 := m ((c : Thread nD τ).loc main_arg15)

/-- Argument 16 of the program. -/
abbrev arg16 : FVec Ideal S129 .f32 := m ((c : Thread nD τ).loc main_arg16)

variable (t : Fin cfg0.N)

/-- The input's block at point `t`. -/
theorem block_input (h : t.val < 32) (k : Fin 129) (q : Fin 64) (n : Fin 256) :
    @Eq EReal (iblk m c 0 t (ix3 k q n)) (arg0 m c (ix3 ⟨t.val * 64 + q.val, by omega⟩ n k)) := by
  have e : @Eq EReal (iblk m c 0 t (ix3 k q n)) ((V m c main_call0_v0) (ix3 k ⟨t.val * 64 + q.val, by omega⟩ n)) := by
    blk_ext [iblk, index_input t]
  exact e.trans ((congrFun (V_input m c) _).trans (transpose_apply _ _ _ _ _ fun a => match a with
    | ⟨0, _⟩ => rfl
    | ⟨1, _⟩ => rfl
    | ⟨2, _⟩ => rfl))

/-- Layer 1's weights at every point: the argument's, halved, transposed. -/
theorem block_weights0 (k : Fin 129) (d : Fin 128) :
    @Eq EReal (iblk m c 1 t (ix2 d k)) (arg1 m c (ix2 k d) * half) := by
  have i : ∀ t : Fin cfg0.N, win0_1.index t = ![0, 0] := (by decide +kernel : ∀ t : Fin grid0.N, _)
  have e : @Eq EReal (iblk m c 1 t (ix2 d k)) ((V m c main_call0_v6) (ix2 d k)) := by
    blk_ext [iblk, i t]
  refine e.trans ((congrFun (V_weights0 m c) _).trans ?_)
  rw [truncf_apply, transpose_apply _ _ _ _ (ix2 k d) fun a => match a with
    | ⟨0, _⟩ => rfl
    | ⟨1, _⟩ => rfl]
  rw [scaled_apply, ofBits_half_f32]

/-- Layer 1's bias at every point: the argument, halved. -/
theorem block_bias0 (d : Fin 128) :
    @Eq EReal (iblk m c 2 t (ix2 0 d)) (arg2 m c (ix1 d) * half) := by
  have i : ∀ t : Fin cfg0.N, win0_2.index t = ![0, 0] := (by decide +kernel : ∀ t : Fin grid0.N, _)
  have e : @Eq EReal (iblk m c 2 t (ix2 0 d)) ((V m c main_call0_v8) (ix2 0 d)) := by
    blk_ext [iblk, i t]
  refine e.trans ((congrFun (V_bias0 m c) _).trans ?_)
  exact (row_apply _ _ _).trans (by rw [truncf_apply, scaled_apply, ofBits_half_f32])

/-- Layer 2's weights at every point: the argument's, quartered. -/
theorem block_weights1 (k : Fin 1024) (d : Fin 128) :
    @Eq EReal (iblk m c 3 t (ix2 k d)) (arg3 m c (ix2 k d) * quarter) := by
  have i : ∀ t : Fin cfg0.N, win0_3.index t = ![0, 0] := (by decide +kernel : ∀ t : Fin grid0.N, _)
  have e : @Eq EReal (iblk m c 3 t (ix2 k d)) ((V m c main_call0_v17) (ix2 k d)) := by
    blk_ext [iblk, i t]
  refine e.trans ((congrFun (V_weights1 m c) _).trans ?_)
  rw [truncf_apply, scaled_apply, ofBits_quarter_f32]

/-- Layer 2's bias at every point: a quarter of the weights' column sum plus half the argument. -/
theorem block_bias1 (d : Fin 128) :
    @Eq EReal (iblk m c 4 t (ix2 0 d)) ((∑ k : Fin 1024, arg3 m c (ix2 k d)) * quarter + arg4 m c (ix1 d) * half) := by
  have i : ∀ t : Fin cfg0.N, win0_4.index t = ![0, 0] := (by decide +kernel : ∀ t : Fin grid0.N, _)
  have e : @Eq EReal (iblk m c 4 t (ix2 0 d)) ((V m c main_call0_v19) (ix2 0 d)) := by
    blk_ext [iblk, i t]
  refine e.trans ((congrFun (V_bias1 m c) _).trans ?_)
  exact (row_apply _ _ _).trans (foldedBias_apply _ _ _ _ _)

/-- Layer 3's weights at every point: the argument's, quartered. -/
theorem block_weights2 (k : Fin 256) (d : Fin 256) :
    @Eq EReal (iblk m c 5 t (ix2 k d)) (arg5 m c (ix2 k d) * quarter) := by
  have i : ∀ t : Fin cfg0.N, win0_5.index t = ![0, 0] := (by decide +kernel : ∀ t : Fin grid0.N, _)
  have e : @Eq EReal (iblk m c 5 t (ix2 k d)) ((V m c main_call0_v28) (ix2 k d)) := by
    blk_ext [iblk, i t]
  refine e.trans ((congrFun (V_weights2 m c) _).trans ?_)
  rw [truncf_apply, scaled_apply, ofBits_quarter_f32]

/-- Layer 3's bias at every point: a quarter of the weights' column sum plus half the argument. -/
theorem block_bias2 (d : Fin 256) :
    @Eq EReal (iblk m c 6 t (ix2 0 d)) ((∑ k : Fin 256, arg5 m c (ix2 k d)) * quarter + arg6 m c (ix1 d) * half) := by
  have i : ∀ t : Fin cfg0.N, win0_6.index t = ![0, 0] := (by decide +kernel : ∀ t : Fin grid0.N, _)
  have e : @Eq EReal (iblk m c 6 t (ix2 0 d)) ((V m c main_call0_v30) (ix2 0 d)) := by
    blk_ext [iblk, i t]
  refine e.trans ((congrFun (V_bias2 m c) _).trans ?_)
  exact (row_apply _ _ _).trans (foldedBias_apply _ _ _ _ _)

/-- Layer 4's weights at every point: the argument's, quartered. -/
theorem block_weights3 (k : Fin 2048) (d : Fin 256) :
    @Eq EReal (iblk m c 7 t (ix2 k d)) (arg7 m c (ix2 k d) * quarter) := by
  have i : ∀ t : Fin cfg0.N, win0_7.index t = ![0, 0] := (by decide +kernel : ∀ t : Fin grid0.N, _)
  have e : @Eq EReal (iblk m c 7 t (ix2 k d)) ((V m c main_call0_v39) (ix2 k d)) := by
    blk_ext [iblk, i t]
  refine e.trans ((congrFun (V_weights3 m c) _).trans ?_)
  rw [truncf_apply, scaled_apply, ofBits_quarter_f32]

/-- Layer 4's bias at every point: a quarter of the weights' column sum plus half the argument. -/
theorem block_bias3 (d : Fin 256) :
    @Eq EReal (iblk m c 8 t (ix2 0 d)) ((∑ k : Fin 2048, arg7 m c (ix2 k d)) * quarter + arg8 m c (ix1 d) * half) := by
  have i : ∀ t : Fin cfg0.N, win0_8.index t = ![0, 0] := (by decide +kernel : ∀ t : Fin grid0.N, _)
  have e : @Eq EReal (iblk m c 8 t (ix2 0 d)) ((V m c main_call0_v41) (ix2 0 d)) := by
    blk_ext [iblk, i t]
  refine e.trans ((congrFun (V_bias3 m c) _).trans ?_)
  exact (row_apply _ _ _).trans (foldedBias_apply _ _ _ _ _)

/-- Layer 5's weights at every point: the argument's, quartered. -/
theorem block_weights4 (k : Fin 256) (d : Fin 2048) :
    @Eq EReal (iblk m c 9 t (ix2 k d)) (arg9 m c (ix2 k d) * quarter) := by
  have i : ∀ t : Fin cfg0.N, win0_9.index t = ![0, 0] := (by decide +kernel : ∀ t : Fin grid0.N, _)
  have e : @Eq EReal (iblk m c 9 t (ix2 k d)) ((V m c main_call0_v50) (ix2 k d)) := by
    blk_ext [iblk, i t]
  refine e.trans ((congrFun (V_weights4 m c) _).trans ?_)
  rw [truncf_apply, scaled_apply, ofBits_quarter_f32]

/-- Layer 5's bias at every point: a quarter of the weights' column sum plus half the argument. -/
theorem block_bias4 (d : Fin 2048) :
    @Eq EReal (iblk m c 10 t (ix2 0 d)) ((∑ k : Fin 256, arg9 m c (ix2 k d)) * quarter + arg10 m c (ix1 d) * half) := by
  have i : ∀ t : Fin cfg0.N, win0_10.index t = ![0, 0] := (by decide +kernel : ∀ t : Fin grid0.N, _)
  have e : @Eq EReal (iblk m c 10 t (ix2 0 d)) ((V m c main_call0_v52) (ix2 0 d)) := by
    blk_ext [iblk, i t]
  refine e.trans ((congrFun (V_bias4 m c) _).trans ?_)
  exact (row_apply _ _ _).trans (foldedBias_apply _ _ _ _ _)

/-- Layer 6's weights at every point: the argument's, quartered. -/
theorem block_weights5 (k : Fin 256) (d : Fin 256) :
    @Eq EReal (iblk m c 11 t (ix2 k d)) (arg11 m c (ix2 k d) * quarter) := by
  have i : ∀ t : Fin cfg0.N, win0_11.index t = ![0, 0] := (by decide +kernel : ∀ t : Fin grid0.N, _)
  have e : @Eq EReal (iblk m c 11 t (ix2 k d)) ((V m c main_call0_v61) (ix2 k d)) := by
    blk_ext [iblk, i t]
  refine e.trans ((congrFun (V_weights5 m c) _).trans ?_)
  rw [truncf_apply, scaled_apply, ofBits_quarter_f32]

/-- Layer 6's bias at every point: a quarter of the weights' column sum plus half the argument. -/
theorem block_bias5 (d : Fin 256) :
    @Eq EReal (iblk m c 12 t (ix2 0 d)) ((∑ k : Fin 256, arg11 m c (ix2 k d)) * quarter + arg12 m c (ix1 d) * half) := by
  have i : ∀ t : Fin cfg0.N, win0_12.index t = ![0, 0] := (by decide +kernel : ∀ t : Fin grid0.N, _)
  have e : @Eq EReal (iblk m c 12 t (ix2 0 d)) ((V m c main_call0_v63) (ix2 0 d)) := by
    blk_ext [iblk, i t]
  refine e.trans ((congrFun (V_bias5 m c) _).trans ?_)
  exact (row_apply _ _ _).trans (foldedBias_apply _ _ _ _ _)

/-- Layer 7's weights at every point: the argument's, quartered. -/
theorem block_weights6 (k : Fin 128) (d : Fin 1024) :
    @Eq EReal (iblk m c 13 t (ix2 k d)) (arg13 m c (ix2 k d) * quarter) := by
  have i : ∀ t : Fin cfg0.N, win0_13.index t = ![0, 0] := (by decide +kernel : ∀ t : Fin grid0.N, _)
  have e : @Eq EReal (iblk m c 13 t (ix2 k d)) ((V m c main_call0_v72) (ix2 k d)) := by
    blk_ext [iblk, i t]
  refine e.trans ((congrFun (V_weights6 m c) _).trans ?_)
  rw [truncf_apply, scaled_apply, ofBits_quarter_f32]

/-- Layer 7's bias at every point: a quarter of the weights' column sum plus half the argument. -/
theorem block_bias6 (d : Fin 1024) :
    @Eq EReal (iblk m c 14 t (ix2 0 d)) ((∑ k : Fin 128, arg13 m c (ix2 k d)) * quarter + arg14 m c (ix1 d) * half) := by
  have i : ∀ t : Fin cfg0.N, win0_14.index t = ![0, 0] := (by decide +kernel : ∀ t : Fin grid0.N, _)
  have e : @Eq EReal (iblk m c 14 t (ix2 0 d)) ((V m c main_call0_v74) (ix2 0 d)) := by
    blk_ext [iblk, i t]
  refine e.trans ((congrFun (V_bias6 m c) _).trans ?_)
  exact (row_apply _ _ _).trans (foldedBias_apply _ _ _ _ _)

/-- Layer 8's weights at every point: the argument's, quartered, transposed. -/
theorem block_weights7 (k : Fin 128) (d : Fin 129) :
    @Eq EReal (iblk m c 15 t (ix2 d k)) (arg15 m c (ix2 k d) * quarter) := by
  have i : ∀ t : Fin cfg0.N, win0_15.index t = ![0, 0] := (by decide +kernel : ∀ t : Fin grid0.N, _)
  have e : @Eq EReal (iblk m c 15 t (ix2 d k)) ((V m c main_call0_v84) (ix2 d k)) := by
    blk_ext [iblk, i t]
  refine e.trans ((congrFun (V_weights7 m c) _).trans ?_)
  rw [truncf_apply, transpose_apply _ _ _ _ (ix2 k d) fun a => match a with
    | ⟨0, _⟩ => rfl
    | ⟨1, _⟩ => rfl]
  rw [scaled_apply, ofBits_quarter_f32]

/-- Layer 8's bias at every point: a quarter of the weights' column sum plus half the argument. -/
theorem block_bias7 (d : Fin 129) :
    @Eq EReal (iblk m c 16 t (ix2 d 0)) ((∑ k : Fin 128, arg15 m c (ix2 k d)) * quarter + arg16 m c (ix1 d) * half) := by
  have i : ∀ t : Fin cfg0.N, win0_16.index t = ![0, 0] := (by decide +kernel : ∀ t : Fin grid0.N, _)
  have e : @Eq EReal (iblk m c 16 t (ix2 d 0)) ((V m c main_call0_v86) (ix2 d 0)) := by
    blk_ext [iblk, i t]
  refine e.trans ((congrFun (V_bias7 m c) _).trans ?_)
  exact (column_apply _ _ _).trans (foldedBias_apply _ _ _ _ _)

end Cert.Chain

end
-- ==== Proof.Reference.lean ====
/- The reference program read as eight dense layers on row-major positions: each layer's array is, at every position,
   the logistic function of the previous array's row times the weights plus the bias, and the reshapes between the
   layers change no position. -/
module

public import proofs.«01_k».proof.Proof.Flat
public import proofs.«01_k».proof.Proof.Gen.ReferenceIdeal.Read

@[expose] public section

noncomputable section

namespace Cert.Chain

open Idealize.ShloMosaic Idealize.ShloMosaic.ValueIdx Cert.ReferenceIdeal Cert.ReferenceIdeal.Read
open scoped BigOperators

/-- A three-axis array whose every element is a dense layer's value of another's row is a dense layer on positions. -/
theorem dense_of {B n K D : ℕ} (A : (⟨3, ![B, n, K]⟩ : Shape).Idx → EReal) (A' : (⟨3, ![B, n, D]⟩ : Shape).Idx → EReal)
    (w : (⟨2, ![K, D]⟩ : Shape).Idx → EReal) (b : (⟨1, ![D]⟩ : Shape).Idx → EReal)
    (h : ∀ i j c, A' (ix3 i j c) = Ideal.logistic (∑ k : Fin K, A (ix3 i j k) * w (ix2 k c) + b (ix1 c))) :
    Dense (B * n) K D (flat A) (flat A') (fun k c => w (ix2 k c)) (fun c => b (ix1 c)) := by
  intro r hr c
  have hn : 0 < n := by rcases Nat.eq_zero_or_pos n with h0 | h0 <;> [(subst h0; simp at hr); exact h0]
  have hi : r / n < B := Nat.div_lt_of_lt_mul (by rw [Nat.mul_comm]; exact hr)
  have hj : r % n < n := Nat.mod_lt _ hn
  have e : r = (⟨r / n, hi⟩ : Fin B).val * n + (⟨r % n, hj⟩ : Fin n).val := (Nat.div_add_mod' r n).symm
  generalize (⟨r / n, hi⟩ : Fin B) = i at e
  generalize (⟨r % n, hj⟩ : Fin n) = j at e
  subst e
  rw [flat_three A' i j c, h]
  refine congrArg (fun z => Ideal.logistic (z + b (ix1 c))) (Finset.sum_congr rfl fun k _ => ?_)
  rw [flat_three A i j k]

/-- One over one plus the exponential of the negation, as the reference writes it, is the logistic function. -/
theorem logistic_spelled (z z' : EReal) (h : z = z') :
    Ideal.div (Ideal.ofBits .f32 0x3F800000#32) (Ideal.ofBits .f32 0x3F800000#32 + Ideal.exp (-z)) = Ideal.logistic z' := by
  rw [ofBits_one_f32, h]; rfl

variable (x0 : (S2048x256x129).Idx → EReal)
  (x1 : (S129x128).Idx → EReal)
  (x2 : (S128).Idx → EReal)
  (x3 : (S1024x128).Idx → EReal)
  (x4 : (S128).Idx → EReal)
  (x5 : (S256x256).Idx → EReal)
  (x6 : (S256).Idx → EReal)
  (x7 : (S2048x256).Idx → EReal)
  (x8 : (S256).Idx → EReal)
  (x9 : (S256x2048).Idx → EReal)
  (x10 : (S2048).Idx → EReal)
  (x11 : (S256x256).Idx → EReal)
  (x12 : (S256).Idx → EReal)
  (x13 : (S128x1024).Idx → EReal)
  (x14 : (S1024).Idx → EReal)
  (x15 : (S128x129).Idx → EReal)
  (x16 : (S129).Idx → EReal)

/-- The first layer: rows of 129 values to rows of 128. -/
theorem ref_layer0 : Dense (2048 * 256) 129 128 (flat x0) (flat (val_main_v9 (F := Ideal) x0 x1 x2))
    (fun k c => x1 (ix2 k c)) (fun c => x2 (ix1 c)) := by
  refine dense_of _ _ _ _ fun i j c => ?_
  rw [val_main_v9_apply, val_main_v8_apply, val_main_cst_0_apply, val_main_v7_apply, val_main_v6_apply, val_main_cst_apply,
    val_main_v5_apply, val_main_v4_apply, val_main_v3_apply, val_main_v2_apply, val_main_v1_apply, val_main_v0_apply]
  refine logistic_spelled _ _ ?_
  exact congrArg₂ (· + ·) (Finset.sum_congr rfl fun k _ => congrArg₂ (· * ·) (congrArg _ (eq_ix3 _)) (congrArg _ (eq_ix2 _)))
    (congrArg _ (eq_ix1 _))

/-- The reshape after the first layer changes no position. -/
theorem ref_reshape0 : flat (val_main_v10 (F := Ideal) x0 x1 x2) = flat (val_main_v9 (F := Ideal) x0 x1 x2) := by
  unfold val_main_v10; rw [flat_shapeCast]

/-- The second layer: rows of 1024 values to rows of 128. -/
theorem ref_layer1 : Dense (2048 * 32) 1024 128 (flat (val_main_v10 (F := Ideal) x0 x1 x2)) (flat (val_main_v20 (F := Ideal) x0 x1 x2 x3 x4))
    (fun k c => x3 (ix2 k c)) (fun c => x4 (ix1 c)) := by
  refine dense_of _ _ _ _ fun i j c => ?_
  rw [val_main_v20_apply, val_main_v19_apply, val_main_cst_2_apply, val_main_v18_apply, val_main_v17_apply, val_main_cst_1_apply,
    val_main_v16_apply, val_main_v15_apply, val_main_v14_apply, val_main_v13_apply, val_main_v12_apply, val_main_v11_apply]
  refine logistic_spelled _ _ ?_
  exact congrArg₂ (· + ·) (Finset.sum_congr rfl fun k _ => congrArg₂ (· * ·) (congrArg _ (eq_ix3 _)) (congrArg _ (eq_ix2 _)))
    (congrArg _ (eq_ix1 _))

/-- The reshape after the second layer changes no position. -/
theorem ref_reshape1 : flat (val_main_v21 (F := Ideal) x0 x1 x2 x3 x4) = flat (val_main_v20 (F := Ideal) x0 x1 x2 x3 x4) := by
  unfold val_main_v21; rw [flat_shapeCast]

/-- The third layer: rows of 256 values to rows of 256. -/
theorem ref_layer2 : Dense (2048 * 16) 256 256 (flat (val_main_v21 (F := Ideal) x0 x1 x2 x3 x4)) (flat (val_main_v31 (F := Ideal) x0 x1 x2 x3 x4 x5 x6))
    (fun k c => x5 (ix2 k c)) (fun c => x6 (ix1 c)) := by
  refine dense_of _ _ _ _ fun i j c => ?_
  rw [val_main_v31_apply, val_main_v30_apply, val_main_cst_4_apply, val_main_v29_apply, val_main_v28_apply, val_main_cst_3_apply,
    val_main_v27_apply, val_main_v26_apply, val_main_v25_apply, val_main_v24_apply, val_main_v23_apply, val_main_v22_apply]
  refine logistic_spelled _ _ ?_
  exact congrArg₂ (· + ·) (Finset.sum_congr rfl fun k _ => congrArg₂ (· * ·) (congrArg _ (eq_ix3 _)) (congrArg _ (eq_ix2 _)))
    (congrArg _ (eq_ix1 _))

/-- The reshape after the third layer changes no position. -/
theorem ref_reshape2 : flat (val_main_v32 (F := Ideal) x0 x1 x2 x3 x4 x5 x6) = flat (val_main_v31 (F := Ideal) x0 x1 x2 x3 x4 x5 x6) := by
  unfold val_main_v32; rw [flat_shapeCast]

/-- The fourth layer: rows of 2048 values to rows of 256. -/
theorem ref_layer3 : Dense (2048 * 2) 2048 256 (flat (val_main_v32 (F := Ideal) x0 x1 x2 x3 x4 x5 x6)) (flat (val_main_v42 (F := Ideal) x0 x1 x2 x3 x4 x5 x6 x7 x8))
    (fun k c => x7 (ix2 k c)) (fun c => x8 (ix1 c)) := by
  refine dense_of _ _ _ _ fun i j c => ?_
  rw [val_main_v42_apply, val_main_v41_apply, val_main_cst_6_apply, val_main_v40_apply, val_main_v39_apply, val_main_cst_5_apply,
    val_main_v38_apply, val_main_v37_apply, val_main_v36_apply, val_main_v35_apply, val_main_v34_apply, val_main_v33_apply]
  refine logistic_spelled _ _ ?_
  exact congrArg₂ (· + ·) (Finset.sum_congr rfl fun k _ => congrArg₂ (· * ·) (congrArg _ (eq_ix3 _)) (congrArg _ (eq_ix2 _)))
    (congrArg _ (eq_ix1 _))

/-- The two reshapes after the fourth layer change no position. -/
theorem ref_reshape3 : flat (val_main_v44 (F := Ideal) x0 x1 x2 x3 x4 x5 x6 x7 x8) = flat (val_main_v42 (F := Ideal) x0 x1 x2 x3 x4 x5 x6 x7 x8) := by
  unfold val_main_v44 val_main_v43; rw [flat_shapeCast, flat_shapeCast]

/-- The fifth layer: rows of 256 values to rows of 2048. -/
theorem ref_layer4 : Dense (2048 * 2) 256 2048 (flat (val_main_v44 (F := Ideal) x0 x1 x2 x3 x4 x5 x6 x7 x8)) (flat (val_main_v54 (F := Ideal) x0 x1 x2 x3 x4 x5 x6 x7 x8 x9 x10))
    (fun k c => x9 (ix2 k c)) (fun c => x10 (ix1 c)) := by
  refine dense_of _ _ _ _ fun i j c => ?_
  rw [val_main_v54_apply, val_main_v53_apply, val_main_cst_8_apply, val_main_v52_apply, val_main_v51_apply, val_main_cst_7_apply,
    val_main_v50_apply, val_main_v49_apply, val_main_v48_apply, val_main_v47_apply, val_main_v46_apply, val_main_v45_apply]
  refine logistic_spelled _ _ ?_
  exact congrArg₂ (· + ·) (Finset.sum_congr rfl fun k _ => congrArg₂ (· * ·) (congrArg _ (eq_ix3 _)) (congrArg _ (eq_ix2 _)))
    (congrArg _ (eq_ix1 _))

/-- The reshape after the fifth layer changes no position. -/
theorem ref_reshape4 : flat (val_main_v55 (F := Ideal) x0 x1 x2 x3 x4 x5 x6 x7 x8 x9 x10) = flat (val_main_v54 (F := Ideal) x0 x1 x2 x3 x4 x5 x6 x7 x8 x9 x10) := by
  unfold val_main_v55; rw [flat_shapeCast]

/-- The sixth layer: rows of 256 values to rows of 256. -/
theorem ref_layer5 : Dense (2048 * 16) 256 256 (flat (val_main_v55 (F := Ideal) x0 x1 x2 x3 x4 x5 x6 x7 x8 x9 x10)) (flat (val_main_v65 (F := Ideal) x0 x1 x2 x3 x4 x5 x6 x7 x8 x9 x10 x11 x12))
    (fun k c => x11 (ix2 k c)) (fun c => x12 (ix1 c)) := by
  refine dense_of _ _ _ _ fun i j c => ?_
  rw [val_main_v65_apply, val_main_v64_apply, val_main_cst_10_apply, val_main_v63_apply, val_main_v62_apply, val_main_cst_9_apply,
    val_main_v61_apply, val_main_v60_apply, val_main_v59_apply, val_main_v58_apply, val_main_v57_apply, val_main_v56_apply]
  refine logistic_spelled _ _ ?_
  exact congrArg₂ (· + ·) (Finset.sum_congr rfl fun k _ => congrArg₂ (· * ·) (congrArg _ (eq_ix3 _)) (congrArg _ (eq_ix2 _)))
    (congrArg _ (eq_ix1 _))

/-- The reshape after the sixth layer changes no position. -/
theorem ref_reshape5 : flat (val_main_v66 (F := Ideal) x0 x1 x2 x3 x4 x5 x6 x7 x8 x9 x10 x11 x12) = flat (val_main_v65 (F := Ideal) x0 x1 x2 x3 x4 x5 x6 x7 x8 x9 x10 x11 x12) := by
  unfold val_main_v66; rw [flat_shapeCast]

/-- The seventh layer: rows of 128 values to rows of 1024. -/
theorem ref_layer6 : Dense (2048 * 32) 128 1024 (flat (val_main_v66 (F := Ideal) x0 x1 x2 x3 x4 x5 x6 x7 x8 x9 x10 x11 x12)) (flat (val_main_v76 (F := Ideal) x0 x1 x2 x3 x4 x5 x6 x7 x8 x9 x10 x11 x12 x13 x14))
    (fun k c => x13 (ix2 k c)) (fun c => x14 (ix1 c)) := by
  refine dense_of _ _ _ _ fun i j c => ?_
  rw [val_main_v76_apply, val_main_v75_apply, val_main_cst_12_apply, val_main_v74_apply, val_main_v73_apply, val_main_cst_11_apply,
    val_main_v72_apply, val_main_v71_apply, val_main_v70_apply, val_main_v69_apply, val_main_v68_apply, val_main_v67_apply]
  refine logistic_spelled _ _ ?_
  exact congrArg₂ (· + ·) (Finset.sum_congr rfl fun k _ => congrArg₂ (· * ·) (congrArg _ (eq_ix3 _)) (congrArg _ (eq_ix2 _)))
    (congrArg _ (eq_ix1 _))

/-- The reshape after the seventh layer changes no position. -/
theorem ref_reshape6 : flat (val_main_v77 (F := Ideal) x0 x1 x2 x3 x4 x5 x6 x7 x8 x9 x10 x11 x12 x13 x14) = flat (val_main_v76 (F := Ideal) x0 x1 x2 x3 x4 x5 x6 x7 x8 x9 x10 x11 x12 x13 x14) := by
  unfold val_main_v77; rw [flat_shapeCast]

/-- The eighth layer: rows of 128 values to rows of 129. -/
theorem ref_layer7 : Dense (2048 * 256) 128 129 (flat (val_main_v77 (F := Ideal) x0 x1 x2 x3 x4 x5 x6 x7 x8 x9 x10 x11 x12 x13 x14)) (flat (val_main_v87 (F := Ideal) x0 x1 x2 x3 x4 x5 x6 x7 x8 x9 x10 x11 x12 x13 x14 x15 x16))
    (fun k c => x15 (ix2 k c)) (fun c => x16 (ix1 c)) := by
  refine dense_of _ _ _ _ fun i j c => ?_
  rw [val_main_v87_apply, val_main_v86_apply, val_main_cst_14_apply, val_main_v85_apply, val_main_v84_apply, val_main_cst_13_apply,
    val_main_v83_apply, val_main_v82_apply, val_main_v81_apply, val_main_v80_apply, val_main_v79_apply, val_main_v78_apply]
  refine logistic_spelled _ _ ?_
  exact congrArg₂ (· + ·) (Finset.sum_congr rfl fun k _ => congrArg₂ (· * ·) (congrArg _ (eq_ix3 _)) (congrArg _ (eq_ix2 _)))
    (congrArg _ (eq_ix1 _))

end Cert.Chain

end
-- ==== Proof.Body.lean ====
/- The body of the kernel at one grid point, on arrays: eight layers, each the product onto zero, the bias and the
   hyperbolic tangent, with a reshape between them. Block `t` of 64 inputs goes through the layers side by side with the
   reference's layers on all 2048 inputs; what comes out is the reference's result at those inputs. -/
module

public import proofs.«01_k».proof.Proof.Reference
public import proofs.«01_k».proof.Proof.Gen.KernelIdeal.Skeleton

@[expose] public section

noncomputable section

namespace Cert.Chain

open Idealize.ShloMosaic Idealize.ShloMosaic.ValueIdx Cert.KernelIdeal Cert.KernelIdeal.Gen
open scoped BigOperators

/-- One later layer of the kernel on a block of rows: product onto zero, bias row, hyperbolic tangent. -/
def tlayer {M K D : ℕ} (d : DotDims ⟨2, ![M, K]⟩ ⟨2, ![K, D]⟩ ⟨2, ![M, D]⟩) (hb : (⟨2, ![1, D]⟩ : Shape).Broadcasts ⟨2, ![M, D]⟩)
    (T : FVec Ideal ⟨2, ![M, K]⟩ .bf16) (w : FVec Ideal ⟨2, ![K, D]⟩ .bf16) (b : FVec Ideal ⟨2, ![1, D]⟩ .bf16) :
    FVec Ideal ⟨2, ![M, D]⟩ .bf16 :=
  tanh (addf (truncf .bf16 (matmul d none T w (constant (F := Ideal) ⟨2, ![M, D]⟩ .f32 0x00000000#32)) bitsLt_bf16_f32)
    (broadcastTo ⟨2, ![M, D]⟩ b hb))

/-- The first layer of the kernel: the block's rows are the columns of a 129-row array. -/
def tfirst (X : FVec Ideal S129x64x256 .f32) (w : FVec Ideal S128x129 .bf16) (b : FVec Ideal S1x128 .bf16) : FVec Ideal S16384x128 .bf16 :=
  tanh (addf (truncf .bf16 (matmul dot_S129x16384_S128x129_S16384x128_0_1_1_0_n_n none
      (shapeCast S129x16384 (truncf .bf16 X bitsLt_bf16_f32) shapeCasts_S129x64x256_S129x16384) w
      (constant (F := Ideal) S16384x128 .f32 0x00000000#32)) bitsLt_bf16_f32)
    (broadcastTo S16384x128 b broadcasts_S1x128_S16384x128))

/-- The last layer of the kernel: the result's rows are the 129 features; then `½·t + ½`, in three axes. -/
def tlast (T : FVec Ideal S16384x128 .bf16) (w : FVec Ideal S129x128 .bf16) (b : FVec Ideal S129x1 .bf16) : FVec Ideal S129x64x256 .f32 :=
  extf .f32 (shapeCast S129x64x256 (addf (mulf (broadcast S129x16384 (Scalar.ofBits (F := Ideal) .bf16 0x3F00#16))
      (tanh (addf (truncf .bf16 (matmul dot_S129x128_S16384x128_S129x16384_1_1_0_0_n_n none w T
          (constant (F := Ideal) S129x16384 .f32 0x00000000#32)) bitsLt_bf16_f32)
        (broadcastTo S129x16384 b broadcasts_S129x1_S129x16384))))
    (broadcast S129x16384 (Scalar.ofBits (F := Ideal) .bf16 0x3F00#16))) shapeCasts_S129x16384_S129x64x256) bitsLt_bf16_f32

/-- What the body stores, written as its eight layers. -/
theorem body_eq (x0 : FVec Ideal S129x64x256 .f32) (x1 : FVec Ideal S128x129 .bf16) (x2 : FVec Ideal S1x128 .bf16)
    (x3 : FVec Ideal S1024x128 .bf16) (x4 : FVec Ideal S1x128 .bf16) (x5 : FVec Ideal S256x256 .bf16) (x6 : FVec Ideal S1x256 .bf16)
    (x7 : FVec Ideal S2048x256 .bf16) (x8 : FVec Ideal S1x256 .bf16) (x9 : FVec Ideal S256x2048 .bf16) (x10 : FVec Ideal S1x2048 .bf16)
    (x11 : FVec Ideal S256x256 .bf16) (x12 : FVec Ideal S1x256 .bf16) (x13 : FVec Ideal S128x1024 .bf16) (x14 : FVec Ideal S1x1024 .bf16)
    (x15 : FVec Ideal S129x128 .bf16) (x16 : FVec Ideal S129x1 .bf16) :
    k0_pay1 (F := Ideal) (k0_pay3 (k0_pay2 x0 x1 x2 x3 x4 x5 x6 x7) x8 x9 x10 x11 x12 x13 x14 x15) x16
      = tlast (shapeCast S16384x128 (tlayer dot_S2048x128_S128x1024_S2048x1024_1_0_0_1_n_n broadcasts_S1x1024_S2048x1024
          (shapeCast S2048x128 (tlayer dot_S1024x256_S256x256_S1024x256_1_0_0_1_n_n broadcasts_S1x256_S1024x256
            (shapeCast S1024x256 (tlayer dot_S128x256_S256x2048_S128x2048_1_0_0_1_n_n broadcasts_S1x2048_S128x2048
              (tlayer dot_S128x2048_S2048x256_S128x256_1_0_0_1_n_n broadcasts_S1x256_S128x256
                (shapeCast S128x2048 (tlayer dot_S1024x256_S256x256_S1024x256_1_0_0_1_n_n broadcasts_S1x256_S1024x256
                  (shapeCast S1024x256 (tlayer dot_S2048x1024_S1024x128_S2048x128_1_0_0_1_n_n broadcasts_S1x128_S2048x128
                    (shapeCast S2048x1024 (tfirst x0 x1 x2) shapeCasts_S16384x128_S2048x1024) x3 x4)
                    shapeCasts_S2048x128_S1024x256) x5 x6) shapeCasts_S1024x256_S128x2048) x7 x8) x9 x10)
              shapeCasts_S128x2048_S1024x256) x11 x12) shapeCasts_S1024x256_S2048x128) x13 x14)
          shapeCasts_S2048x1024_S16384x128) x15 x16 := by
  unfold k0_pay1 k0_pay3 k0_pay2
  simp only [shapeCast_self]
  rfl

/-- The first layer's product onto zero, read at row `r`, column `c`: both operands are contracted on their 129 features. -/
theorem matmul_first_apply (L : FVec Ideal S129x16384 .bf16) (w : FVec Ideal S128x129 .bf16) (r : Fin 16384) (c : Fin 128) :
    matmul dot_S129x16384_S128x129_S16384x128_0_1_1_0_n_n none L w (constant (F := Ideal) S16384x128 .f32 0x00000000#32) (ix2 r c)
      = ∑ k : Fin 129, L (ix2 k r) * w (ix2 c k) := by
  show FloatOps.matmul dot_S129x16384_S128x129_S16384x128_0_1_1_0_n_n none L w (constant (F := Ideal) S16384x128 .f32 0x00000000#32) (ix2 r c) = _
  rw [Ideal.matmul_apply, constant_apply, Ideal.ofBits_zero_f32, zero_add,
    ← Equiv.sum_comp (contrEquiv1 dot_S129x16384_S128x129_S16384x128_0_1_1_0_n_n 129 rfl rfl).symm]
  refine Finset.sum_congr rfl fun k _ => ?_
  have hk := contrEquiv1_symm_val dot_S129x16384_S128x129_S16384x128_0_1_1_0_n_n 129 rfl rfl k
  refine congrArg₂ (· * ·) (congrArg L ?_) (congrArg w ?_) <;> funext a <;> apply Fin.ext <;> fin_cases a
  · exact (DotDims.lhsIdx_val_of_single _ rfl _ _).trans hk
  · rfl
  · rfl
  · exact (DotDims.rhsIdx_val_of_single _ rfl _ _).trans hk

/-- The first layer against the reference's, from the block of the transposed input and the halved weights and bias. -/
theorem first_agree {t : ℕ} (ht : t < 32) (X : FVec Ideal S129x64x256 .f32) (w : FVec Ideal S128x129 .bf16) (b : FVec Ideal S1x128 .bf16)
    (x : FVec Ideal S2048x256x129 .f32) (W : Fin 129 → Fin 128 → EReal) (B : Fin 128 → EReal) (H' : ℕ → EReal)
    (hX : ∀ (k : Fin 129) (q : Fin 64) (n : Fin 256), X (ix3 k q n) = x (ix3 ⟨t * 64 + q.val, by omega⟩ n k))
    (hw : ∀ k d, w (ix2 d k) = W k d * half) (hb : ∀ d, b (ix2 0 d) = B d * half)
    (hH : Dense (2048 * 256) 129 128 (flat x) H' W B) : Agree (t * (16384 * 128)) (16384 * 128) (flat (tfirst X w b)) H' := by
  intro f hf
  have hr : f / 128 < 16384 := by omega
  have hf' : f = f / 128 * 128 + (⟨f % 128, Nat.mod_lt _ (by norm_num)⟩ : Fin 128).val := (Nat.div_add_mod' f 128).symm
  have ho : t * (16384 * 128) + f = (t * 16384 + f / 128) * 128 + (⟨f % 128, Nat.mod_lt _ (by norm_num)⟩ : Fin 128).val := by
    conv_lhs => rw [hf']
    ring
  generalize (⟨f % 128, Nat.mod_lt _ (by norm_num)⟩ : Fin 128) = c at hf' ho
  generalize f / 128 = r at hr hf' ho
  rw [ho, hf', hH (t * 16384 + r) (by omega) c]
  have e : flat (tfirst X w b) (r * 128 + c.val) = Ideal.tanh (half * (∑ k : Fin 129, flat x ((t * 16384 + r) * 129 + k.val) * W k c + B c)) := by
    refine (flat_two _ ⟨r, hr⟩ c).trans ?_
    have hq : r / 256 < 64 := by omega
    have hn : r % 256 < 256 := Nat.mod_lt _ (by norm_num)
    have hL : ∀ k : Fin 129, shapeCast S129x16384 (truncf .bf16 X bitsLt_bf16_f32) shapeCasts_S129x64x256_S129x16384 (ix2 k ⟨r, hr⟩)
        = flat x ((t * 16384 + r) * 129 + k.val) := fun k => by
      rw [shapeCast_apply _ _ _ (ix3 k ⟨r / 256, hq⟩ ⟨r % 256, hn⟩) (by
        rw [Shape.rowMajor_val_three, Shape.rowMajor_val_two]
        show (k.val * 64 + r / 256) * 256 + r % 256 = k.val * 16384 + r
        omega), truncf_apply, hX, ← flat_three x]
      refine congrArg (flat x) ?_
      show ((t * 64 + r / 256) * 256 + r % 256) * 129 + k.val = _
      omega
    show Ideal.tanh (matmul dot_S129x16384_S128x129_S16384x128_0_1_1_0_n_n none
      (shapeCast S129x16384 (truncf .bf16 X bitsLt_bf16_f32) shapeCasts_S129x64x256_S129x16384) w
      (constant (F := Ideal) S16384x128 .f32 0x00000000#32) (ix2 ⟨r, hr⟩ c)
      + broadcastTo S16384x128 b broadcasts_S1x128_S16384x128 (ix2 ⟨r, hr⟩ c)) = _
    rw [matmul_first_apply, show broadcastTo S16384x128 b broadcasts_S1x128_S16384x128 (ix2 ⟨r, hr⟩ c) = b (ix2 0 c) from
      broadcastTo_1b_ab_apply .., hb, ← first_fold]
    refine congrArg (fun z => Ideal.tanh (z + B c * half)) (Finset.sum_congr rfl fun k _ => ?_)
    rw [hL, hw]
  rw [e, logistic_eq]
  exact ⟨tanh_real _, rfl⟩

/-- A later layer against the reference's. -/
theorem later_agree {t n M K D o : ℕ} {d : DotDims ⟨2, ![M, K]⟩ ⟨2, ![K, D]⟩ ⟨2, ![M, D]⟩} (hd : d = DotDims.plain M K D)
    {hbc : (⟨2, ![1, D]⟩ : Shape).Broadcasts ⟨2, ![M, D]⟩} {T : FVec Ideal ⟨2, ![M, K]⟩ .bf16} {w : FVec Ideal ⟨2, ![K, D]⟩ .bf16}
    {b : FVec Ideal ⟨2, ![1, D]⟩ .bf16} {H H' : ℕ → EReal} {W : (⟨2, ![K, D]⟩ : Shape).Idx → EReal} {B : (⟨1, ![D]⟩ : Shape).Idx → EReal}
    (ht : t < 32) (hM : M = 64 * n) (hT : Agree (t * o) o (flat T) H) (ho : o = M * K)
    (hH : Dense (2048 * n) K D H H' (fun k c => W (ix2 k c)) (fun c => B (ix1 c)))
    (hfin : ∀ k c, ∃ r : ℝ, W (ix2 k c) = (r : EReal)) (hw : ∀ k c, w (ix2 k c) = W (ix2 k c) * quarter)
    (hb : ∀ c, b (ix2 0 c) = (∑ k, W (ix2 k c)) * quarter + B (ix1 c) * half) :
    Agree (t * (M * D)) (M * D) (flat (tlayer d hbc T w b)) H' := by
  subst ho
  refine Agree.step hT hH ?_ (tdense_of hd T w b hbc bitsLt_bf16_f32) hfin hw hb
  subst hM
  nlinarith

/-- The last layer against the reference's: the kernel's block at `(k, q, n)` is the reference's result of input
    `64·t + q` at `(n, k)`. -/
theorem last_agree {t : ℕ} (ht : t < 32) (T : FVec Ideal S16384x128 .bf16) (w : FVec Ideal S129x128 .bf16) (b : FVec Ideal S129x1 .bf16)
    (H : ℕ → EReal) (W : FVec Ideal S128x129 .f32) (B : FVec Ideal S129 .f32) (R : FVec Ideal S2048x256x129 .f32)
    (hT : Agree (t * (16384 * 128)) (16384 * 128) (flat T) H)
    (hH : Dense (2048 * 256) 128 129 H (flat R) (fun k c => W (ix2 k c)) (fun c => B (ix1 c)))
    (hfin : ∀ k c, ∃ r : ℝ, W (ix2 k c) = (r : EReal)) (hw : ∀ k c, w (ix2 c k) = W (ix2 k c) * quarter)
    (hb : ∀ c, b (ix2 c 0) = (∑ k, W (ix2 k c)) * quarter + B (ix1 c) * half) (k : Fin 129) (q : Fin 64) (n : Fin 256) :
    tlast T w b (ix3 k q n) = R (ix3 ⟨t * 64 + q.val, by omega⟩ n k) := by
  have hr : q.val * 256 + n.val < 16384 := by omega
  have hd : dot_S129x128_S16384x128_S129x16384_1_1_0_0_n_n = DotDims.transposedRhs 129 128 16384 := rfl
  have hm := Ideal.matmul_transposedRhs_apply none w T (constant (F := Ideal) S129x16384 .f32 0x00000000#32) k ⟨q.val * 256 + n.val, hr⟩
  have hbt : broadcastTo S129x16384 b broadcasts_S129x1_S129x16384 (ix2 k ⟨q.val * 256 + n.val, hr⟩) = b (ix2 k 0) :=
    broadcastTo_apply b _ _ _ fun a => match a with
      | ⟨0, _⟩ => rfl
      | ⟨1, _⟩ => rfl
  have e : tlast T w b (ix3 k q n) = half * Ideal.tanh (∑ j : Fin 128, w (ix2 k j) * T (ix2 ⟨q.val * 256 + n.val, hr⟩ j) + b (ix2 k 0)) + half := by
    unfold tlast
    rw [extf_apply, shapeCast_apply _ _ _ (ix2 k ⟨q.val * 256 + n.val, hr⟩) (by
        rw [Shape.rowMajor_val_three, Shape.rowMajor_val_two]
        show k.val * 16384 + (q.val * 256 + n.val) = (k.val * 64 + q.val) * 256 + n.val
        omega)]
    show Ideal.ofBits .bf16 0x3F00#16 * Ideal.tanh (FloatOps.matmul dot_S129x128_S16384x128_S129x16384_1_1_0_0_n_n none w T
          (constant (F := Ideal) S129x16384 .f32 0x00000000#32) (ix2 k ⟨q.val * 256 + n.val, hr⟩)
        + broadcastTo S129x16384 b broadcasts_S129x1_S129x16384 (ix2 k ⟨q.val * 256 + n.val, hr⟩)) + Ideal.ofBits .bf16 0x3F00#16 = _
    rw [hd, hm, hbt, constant_apply, Ideal.ofBits_zero_f32, zero_add, ofBits_half_bf16]
  -- the reference's element, at its row-major position
  rw [← flat_three R]
  show tlast T w b (ix3 k q n) = flat R (((t * 64 + q.val) * 256 + n.val) * 129 + k.val)
  rw [show (t * 64 + q.val) * 256 + n.val = t * 16384 + (q.val * 256 + n.val) by omega, hH _ (by omega) k, e, logistic_eq]
  have hj : ∀ j : Fin 128, (∃ τ : ℝ, T (ix2 ⟨q.val * 256 + n.val, hr⟩ j) = (τ : EReal))
      ∧ H ((t * 16384 + (q.val * 256 + n.val)) * 128 + j.val) = half * T (ix2 ⟨q.val * 256 + n.val, hr⟩ j) + half := fun j => by
    have h := hT ((q.val * 256 + n.val) * 128 + j.val) (by omega)
    rw [flat_two T ⟨q.val * 256 + n.val, hr⟩ j] at h
    rw [show (t * 16384 + (q.val * 256 + n.val)) * 128 + j.val = t * (16384 * 128) + ((q.val * 256 + n.val) * 128 + j.val) by ring]
    exact h
  choose τ hτ using fun j => (hj j).1
  choose ω hω using fun j => hfin j k
  have h1 : ∑ j : Fin 128, w (ix2 k j) * T (ix2 ⟨q.val * 256 + n.val, hr⟩ j) = ∑ j : Fin 128, (τ j : EReal) * ((ω j : EReal) * quarter) :=
    Finset.sum_congr rfl fun j _ => by rw [hw, hτ, hω, mul_comm]
  have h2 : ∑ j : Fin 128, H ((t * 16384 + (q.val * 256 + n.val)) * 128 + j.val) * W (ix2 j k)
      = ∑ j : Fin 128, (half * (τ j : EReal) + half) * (ω j : EReal) :=
    Finset.sum_congr rfl fun j _ => by rw [(hj j).2, hτ, hω]
  have h3 : ∑ j : Fin 128, W (ix2 j k) = ∑ j : Fin 128, (ω j : EReal) := Finset.sum_congr rfl fun j _ => hω j
  refine congrArg (fun z => half * Ideal.tanh z + half) ?_
  rw [h1, hb, h3, later_fold]
  exact congrArg (fun z => half * (z + B (ix1 k))) h2.symm

end Cert.Chain

end
-- ==== Proof.Chain.lean ====
/- The eight layers of the kernel's body one after another against the reference's: from blocks holding the input's
   block, the scaled weights and the folded biases, what the body stores is the reference's result at the block's inputs. -/
module

public import proofs.«01_k».proof.Proof.Body

@[expose] public section

noncomputable section

namespace Cert.Chain

open Idealize.ShloMosaic Idealize.ShloMosaic.ValueIdx Cert.KernelIdeal Cert.KernelIdeal.Gen Cert.ReferenceIdeal.Read
open scoped BigOperators

/-- Every entry of an array is a real number. -/
def Reals {s : Shape} (x : s.Idx → EReal) : Prop := ∀ i, ∃ r : ℝ, x i = (r : EReal)

/-- What the body stores at `(k, q, n)` in the block `t` is the reference's result for input `64·t + q` at `(n, k)`, when
    the later layers' weights are real numbers. -/
theorem block_value {t : ℕ} (ht : t < 32)
    (x0 : FVec Ideal S129x64x256 .f32)
    (x1 : FVec Ideal S128x129 .bf16) (x2 : FVec Ideal S1x128 .bf16)
    (x3 : FVec Ideal S1024x128 .bf16) (x4 : FVec Ideal S1x128 .bf16)
    (x5 : FVec Ideal S256x256 .bf16) (x6 : FVec Ideal S1x256 .bf16)
    (x7 : FVec Ideal S2048x256 .bf16) (x8 : FVec Ideal S1x256 .bf16)
    (x9 : FVec Ideal S256x2048 .bf16) (x10 : FVec Ideal S1x2048 .bf16)
    (x11 : FVec Ideal S256x256 .bf16) (x12 : FVec Ideal S1x256 .bf16)
    (x13 : FVec Ideal S128x1024 .bf16) (x14 : FVec Ideal S1x1024 .bf16)
    (x15 : FVec Ideal S129x128 .bf16) (x16 : FVec Ideal S129x1 .bf16)
    (a0 : FVec Ideal S2048x256x129 .f32)
    (a1 : FVec Ideal S129x128 .f32) (a2 : FVec Ideal S128 .f32)
    (a3 : FVec Ideal S1024x128 .f32) (a4 : FVec Ideal S128 .f32)
    (a5 : FVec Ideal S256x256 .f32) (a6 : FVec Ideal S256 .f32)
    (a7 : FVec Ideal S2048x256 .f32) (a8 : FVec Ideal S256 .f32)
    (a9 : FVec Ideal S256x2048 .f32) (a10 : FVec Ideal S2048 .f32)
    (a11 : FVec Ideal S256x256 .f32) (a12 : FVec Ideal S256 .f32)
    (a13 : FVec Ideal S128x1024 .f32) (a14 : FVec Ideal S1024 .f32)
    (a15 : FVec Ideal S128x129 .f32) (a16 : FVec Ideal S129 .f32)
    (h0 : ∀ (k : Fin 129) (q : Fin 64) (n : Fin 256), x0 (ix3 k q n) = a0 (ix3 ⟨t * 64 + q.val, by omega⟩ n k))
    (h1 : ∀ k c, x1 (ix2 c k) = a1 (ix2 k c) * half) (h2 : ∀ c, x2 (ix2 0 c) = a2 (ix1 c) * half)
    (r3 : Reals a3) (h3 : ∀ k c, x3 (ix2 k c) = a3 (ix2 k c) * quarter)
    (h4 : ∀ c, x4 (ix2 0 c) = (∑ k, a3 (ix2 k c)) * quarter + a4 (ix1 c) * half)
    (r5 : Reals a5) (h5 : ∀ k c, x5 (ix2 k c) = a5 (ix2 k c) * quarter)
    (h6 : ∀ c, x6 (ix2 0 c) = (∑ k, a5 (ix2 k c)) * quarter + a6 (ix1 c) * half)
    (r7 : Reals a7) (h7 : ∀ k c, x7 (ix2 k c) = a7 (ix2 k c) * quarter)
    (h8 : ∀ c, x8 (ix2 0 c) = (∑ k, a7 (ix2 k c)) * quarter + a8 (ix1 c) * half)
    (r9 : Reals a9) (h9 : ∀ k c, x9 (ix2 k c) = a9 (ix2 k c) * quarter)
    (h10 : ∀ c, x10 (ix2 0 c) = (∑ k, a9 (ix2 k c)) * quarter + a10 (ix1 c) * half)
    (r11 : Reals a11) (h11 : ∀ k c, x11 (ix2 k c) = a11 (ix2 k c) * quarter)
    (h12 : ∀ c, x12 (ix2 0 c) = (∑ k, a11 (ix2 k c)) * quarter + a12 (ix1 c) * half)
    (r13 : Reals a13) (h13 : ∀ k c, x13 (ix2 k c) = a13 (ix2 k c) * quarter)
    (h14 : ∀ c, x14 (ix2 0 c) = (∑ k, a13 (ix2 k c)) * quarter + a14 (ix1 c) * half)
    (r15 : Reals a15) (h15 : ∀ k c, x15 (ix2 c k) = a15 (ix2 k c) * quarter)
    (h16 : ∀ c, x16 (ix2 c 0) = (∑ k, a15 (ix2 k c)) * quarter + a16 (ix1 c) * half)
    (k : Fin 129) (q : Fin 64) (n : Fin 256) :
    k0_pay1 (F := Ideal) (k0_pay3 (k0_pay2 x0 x1 x2 x3 x4 x5 x6 x7) x8 x9 x10 x11 x12 x13 x14 x15) x16 (ix3 k q n)
      = (val_main_v87 (F := Ideal) a0 a1 a2 a3 a4 a5 a6 a7 a8 a9 a10 a11 a12 a13 a14 a15 a16) (ix3 ⟨t * 64 + q.val, by omega⟩ n k) := by
  rw [body_eq]
  have e0 := first_agree ht x0 x1 x2 a0 (fun k c => a1 (ix2 k c)) (fun c => a2 (ix1 c)) (flat (val_main_v9 (F := Ideal) a0 a1 a2)) h0 h1 h2 (ref_layer0 a0 a1 a2)
  rw [← ref_reshape0 a0 a1 a2, ← flat_shapeCast (t := S2048x1024) _ shapeCasts_S16384x128_S2048x1024] at e0
  have e1 := later_agree (n := 32) (M := 2048) (K := 1024) (D := 128) (d := dot_S2048x1024_S1024x128_S2048x128_1_0_0_1_n_n) rfl
    (hbc := broadcasts_S1x128_S2048x128) (b := x4) ht rfl e0 rfl (ref_layer1 a0 a1 a2 a3 a4) (fun _ _ => r3 _) h3 h4
  rw [← ref_reshape1 a0 a1 a2 a3 a4, ← flat_shapeCast (t := S1024x256) _ shapeCasts_S2048x128_S1024x256] at e1
  have e2 := later_agree (n := 16) (M := 1024) (K := 256) (D := 256) (d := dot_S1024x256_S256x256_S1024x256_1_0_0_1_n_n) rfl
    (hbc := broadcasts_S1x256_S1024x256) (b := x6) ht rfl e1 rfl (ref_layer2 a0 a1 a2 a3 a4 a5 a6) (fun _ _ => r5 _) h5 h6
  rw [← ref_reshape2 a0 a1 a2 a3 a4 a5 a6, ← flat_shapeCast (t := S128x2048) _ shapeCasts_S1024x256_S128x2048] at e2
  have e3 := later_agree (n := 2) (M := 128) (K := 2048) (D := 256) (d := dot_S128x2048_S2048x256_S128x256_1_0_0_1_n_n) rfl
    (hbc := broadcasts_S1x256_S128x256) (b := x8) ht rfl e2 rfl (ref_layer3 a0 a1 a2 a3 a4 a5 a6 a7 a8) (fun _ _ => r7 _) h7 h8
  rw [← ref_reshape3 a0 a1 a2 a3 a4 a5 a6 a7 a8] at e3
  have e4 := later_agree (n := 2) (M := 128) (K := 256) (D := 2048) (d := dot_S128x256_S256x2048_S128x2048_1_0_0_1_n_n) rfl
    (hbc := broadcasts_S1x2048_S128x2048) (b := x10) ht rfl e3 rfl (ref_layer4 a0 a1 a2 a3 a4 a5 a6 a7 a8 a9 a10) (fun _ _ => r9 _) h9 h10
  rw [← ref_reshape4 a0 a1 a2 a3 a4 a5 a6 a7 a8 a9 a10, ← flat_shapeCast (t := S1024x256) _ shapeCasts_S128x2048_S1024x256] at e4
  have e5 := later_agree (n := 16) (M := 1024) (K := 256) (D := 256) (d := dot_S1024x256_S256x256_S1024x256_1_0_0_1_n_n) rfl
    (hbc := broadcasts_S1x256_S1024x256) (b := x12) ht rfl e4 rfl (ref_layer5 a0 a1 a2 a3 a4 a5 a6 a7 a8 a9 a10 a11 a12) (fun _ _ => r11 _) h11 h12
  rw [← ref_reshape5 a0 a1 a2 a3 a4 a5 a6 a7 a8 a9 a10 a11 a12, ← flat_shapeCast (t := S2048x128) _ shapeCasts_S1024x256_S2048x128] at e5
  have e6 := later_agree (n := 32) (M := 2048) (K := 128) (D := 1024) (d := dot_S2048x128_S128x1024_S2048x1024_1_0_0_1_n_n) rfl
    (hbc := broadcasts_S1x1024_S2048x1024) (b := x14) ht rfl e5 rfl (ref_layer6 a0 a1 a2 a3 a4 a5 a6 a7 a8 a9 a10 a11 a12 a13 a14) (fun _ _ => r13 _) h13 h14
  rw [← ref_reshape6 a0 a1 a2 a3 a4 a5 a6 a7 a8 a9 a10 a11 a12 a13 a14, ← flat_shapeCast (t := S16384x128) _ shapeCasts_S2048x1024_S16384x128] at e6
  exact last_agree ht _ x15 x16 _ a15 a16 _ e6 (ref_layer7 a0 a1 a2 a3 a4 a5 a6 a7 a8 a9 a10 a11 a12 a13 a14 a15 a16) (fun _ _ => r15 _) h15 h16 k q n

end Cert.Chain

end
-- ==== Proof.Finite.lean ====
/- What the precondition says: every entry of the seven later layers' weights is a real number. -/
module

public import proofs.«01_k».proof.Proof.Chain
public import proofs.«01_k».proof.Proof.Gen.Pre_later_weights_finite
public import Idealize.ShloMosaic.Lib.ReduceAll
public import Idealize.ShloMosaic.Lib.ValueIdxCore

@[expose] public section

noncomputable section

namespace Cert.Chain

open Idealize.ShloMosaic Idealize.ShloMosaic.ValueIdx Cert.Pre_later_weights_finite

/-- An extended real whose absolute value is below the top is a real number. -/
theorem real_of_abs_lt_top {x : EReal} (h : max x (-x) < ⊤) : ∃ r : ℝ, x = (r : EReal) := by
  refine ⟨x.toReal, (EReal.coe_toReal ?_ ?_).symm⟩ <;> rintro rfl <;> simp at h

/-- Both of two truth values whose conjunction is true are true. -/
theorem both_of_and {x y : IVec S_ 1} (h : andi x y ix0 = 1#1) : x ix0 = 1#1 ∧ y ix0 = 1#1 := by
  have e : ∀ a b : BitVec 1, IntOp.andi a b = 1#1 → a = 1#1 ∧ b = 1#1 := by decide
  exact e _ _ h

/-- An array all of whose absolute values compare below infinity has real entries. -/
theorem reals_of_all {s : Shape} {axes : List (Fin s.rank)} (x : FVec Ideal s .f32) (hb : S_.BroadcastsInDim s ![]) (h : s.ReducesTo axes S_) (hu : 0 < S_.numel)
    (e : Host.reduce IntOp.andi (cmpf .olt (Host.absf x) (broadcastInDim s ![] hb (constant (F := Ideal) S_ .f32 0x7F800000#32)))
      (constantI S_ 1 1#1) h hu ix0 = 1#1) : Reals x := fun i => by
  have e' := Host.reduce_andi_all _ _ h hu ix0 e i
  rw [cmpf_apply, broadcastInDim_apply ![] hb _ i ix0 (fun a => a.elim0), constant_apply, ofBits_inf_f32] at e'
  refine real_of_abs_lt_top ?_
  by_contra hn
  have : FloatOps.cmpf (F := Ideal) .olt (Host.absf x i) (⊤ : EReal) = BitVec.ofBool (decide (max (x i) (-(x i)) < ⊤)) := rfl
  rw [this, decide_eq_false hn] at e'
  exact absurd e' (by decide)

/-- Under the precondition every entry of the weights of layers two to eight is a real number. -/
theorem pre_reals (a0 : FVec Ideal S2048x256x129 .f32)
    (a1 : FVec Ideal S129x128 .f32) (a2 : FVec Ideal S128 .f32)
    (a3 : FVec Ideal S1024x128 .f32) (a4 : FVec Ideal S128 .f32)
    (a5 : FVec Ideal S256x256 .f32) (a6 : FVec Ideal S256 .f32)
    (a7 : FVec Ideal S2048x256 .f32) (a8 : FVec Ideal S256 .f32)
    (a9 : FVec Ideal S256x2048 .f32) (a10 : FVec Ideal S2048 .f32)
    (a11 : FVec Ideal S256x256 .f32) (a12 : FVec Ideal S256 .f32)
    (a13 : FVec Ideal S128x1024 .f32) (a14 : FVec Ideal S1024 .f32)
    (a15 : FVec Ideal S128x129 .f32) (a16 : FVec Ideal S129 .f32)
    (e : Cert.Pre_later_weights_finite.fn (F := Ideal) a0 a1 a2 a3 a4 a5 a6 a7 a8 a9 a10 a11 a12 a13 a14 a15 a16 = fun _ => 1#1) :
    Reals a3 ∧ Reals a5 ∧ Reals a7 ∧ Reals a9 ∧ Reals a11 ∧ Reals a13 ∧ Reals a15 := by
  have e := congrFun e ix0
  dsimp only [fn, fn_part1, fn_part2] at e
  obtain ⟨e, h7⟩ := both_of_and e
  obtain ⟨e, h6⟩ := both_of_and e
  obtain ⟨e, h5⟩ := both_of_and e
  obtain ⟨e, h4⟩ := both_of_and e
  obtain ⟨e, h3⟩ := both_of_and e
  obtain ⟨e, h2⟩ := both_of_and e
  obtain ⟨-, h1⟩ := both_of_and e
  exact ⟨reals_of_all _ _ _ _ h1, reals_of_all _ _ _ _ h2, reals_of_all _ _ _ _ h3, reals_of_all _ _ _ _ h4, reals_of_all _ _ _ _ h5, reals_of_all _ _ _ _ h6, reals_of_all _ _ _ _ h7⟩

end Cert.Chain

end
-- ==== Proof.Result.lean ====
/- The kernel's result: its launch leaves, in the result array's block `t`, the reference's result at inputs `64·t` to
   `64·t + 63`, features first; the transpose after it puts inputs first. -/
module

public import proofs.«01_k».proof.Proof.Blocks
public import proofs.«01_k».proof.Proof.Finite

@[expose] public section

set_option maxRecDepth 16384

noncomputable section

namespace Cert.Chain

open Idealize.ShloMosaic hiding ix0 ix1 ix2 ix3 eq_ix1 eq_ix2 eq_ix3 truncf_apply
open Idealize.ShloMosaic.TcCoe Idealize.ShloMosaic.ValueIdx Idealize.SL.Sem
open Cert.KernelIdeal Cert.KernelIdeal.Gen Cert.ReferenceIdeal.Read
open scoped BigOperators

variable (m : (ℓ : Loc nD τ sig) → Buf (Elt Ideal) ℓ) (c : Dev nD)

/-- The reference's result on the kernel program's arguments. -/
def result : FVec Ideal S2048x256x129 .f32 :=
  val_main_v87 (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c)

/-- The weights of layers two to eight have real entries. -/
def LaterReals : Prop :=
  Reals (arg3 m c) ∧ Reals (arg5 m c) ∧ Reals (arg7 m c) ∧ Reals (arg9 m c) ∧ Reals (arg11 m c) ∧ Reals (arg13 m c) ∧ Reals (arg15 m c)

/-- The block the body leaves at point `t`, at an index. -/
theorem block_result (h : LaterReals m c) (t : Fin cfg0.N) (ht : t.val < 32) (k : Fin 129) (q : Fin 64) (n : Fin 256) :
    k0_pay1 (F := Ideal) (k0_pay3 (k0_pay2 (iblk m c 0 t) (iblk m c 1 t) (iblk m c 2 t) (iblk m c 3 t) (iblk m c 4 t) (iblk m c 5 t) (iblk m c 6 t) (iblk m c 7 t))
      (iblk m c 8 t) (iblk m c 9 t) (iblk m c 10 t) (iblk m c 11 t) (iblk m c 12 t) (iblk m c 13 t) (iblk m c 14 t) (iblk m c 15 t)) (iblk m c 16 t) (ix3 k q n)
      = result m c (ix3 ⟨t.val * 64 + q.val, by omega⟩ n k) := by
  obtain ⟨r1, r2, r3, r4, r5, r6, r7⟩ := h
  exact block_value ht (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c)
    (block_input m c t ht) (block_weights0 m c t) (block_bias0 m c t)
    r1 (block_weights1 m c t) (block_bias1 m c t) r2 (block_weights2 m c t) (block_bias2 m c t) r3 (block_weights3 m c t) (block_bias3 m c t) r4 (block_weights4 m c t) (block_bias4 m c t) r5 (block_weights5 m c t) (block_bias5 m c t) r6 (block_weights6 m c t) (block_bias6 m c t) r7 (block_weights7 m c t) (block_bias7 m c t) k q n

/-- Where the result's block lies in its array. -/
theorem emb_result (t : Fin cfg0.N) (ht : t.val < 32) (k : Fin 129) (q : Fin 64) (n : Fin 256) :
    (win0_17.blk t).view.emb (ix3 k q n) = ix3 k ⟨t.val * 64 + q.val, by omega⟩ n := by
  blk_ext [index_result t]

/-- The launch's result array after the run. -/
theorem final_array (h : LaterReals m c) :
    (dats m 0 c).arrAt 17 cfg0.N = fun i : S129x2048x256.Idx => result m c (ix3 (i 1) (i 2) (i 0)) := by
  refine (dats m 0 c).arrAt_eq_of_covers 17 _ (by decide +kernel) fun t hf y => ?_
  blk_simp
  rw [after0_17]
  frame_out
  have ht : t.val < 32 := t.isLt
  obtain ⟨k, q, n, rfl⟩ : ∃ (k : Fin 129) (q : Fin 64) (n : Fin 256), y = ix3 k q n := ⟨y 0, y 1, y 2, eq_ix3 y⟩
  refine (block_result m c h t ht k q n).trans ?_
  have he := emb_result t ht k q n
  generalize (win0_17.blk t).view.emb (ix3 k q n) = i at he ⊢
  subst he
  rfl

/-- The host operation after the launch, on any contents: the result is the launch's array transposed. -/
theorem tail_reads (X : Valuation τ sig (Elt Ideal)) :
    @Eq (FVec Ideal S2048x256x129 .f32) (StableHlo.after [hostOps1].flatten X (Proc.devRef .tc main_v0))
      (transpose S2048x256x129 [1, 2, 0] (X (Proc.devRef .tc main_call0_v87)) transposes_S129x2048x256_S2048x256x129_1_2_0) := by
  unfold hostOps1
  after_reads_simp
  rfl

/-- What the program returns: the launch's result array transposed. -/
theorem tail_result (h : LaterReals m c) :
    Pipeline.afterTail₀ cfgs (dats m) 0 (V0 m) [hostOps1] c main_v0 = result m c := by
  have e := Pipeline.withArrays_arr spec0 launch0.win.arr_inj c (V0 m c) (fun w => (dats m 0 c).arrAt w cfg0.N) 17
  rw [final_array m c h] at e
  unfold Pipeline.afterTail₀
  refine (tail_reads _).trans ((congrArg (fun x => transpose S2048x256x129 [1, 2, 0] x transposes_S129x2048x256_S2048x256x129_1_2_0) e).trans ?_)
  funext i
  refine (transpose_apply _ _ _ _ (ix3 (i 2) (i 0) (i 1)) fun a => match a with
    | ⟨0, _⟩ => rfl
    | ⟨1, _⟩ => rfl
    | ⟨2, _⟩ => rfl).trans ?_
  exact congrArg (result m c) (eq_ix3 i).symm

end Cert.Chain

end
-- ==== Proof.lean ====
module

public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_later_weights_finite
public import proofs.«01_k».proof.Proof.Result
public import Idealize.ShloMosaic.Adequacy
public import Idealize.ShloMosaic.Init
public import Idealize.ShloMosaic.Lib.Claim

@[expose] public section

noncomputable section

namespace Cert.Proof

open Idealize.ShloMosaic Idealize.SL.Sem

/-- The idealized kernel's run: it returns the reference's result on its arguments and leaves them unchanged. -/
theorem kernel_run (m : (ℓ : Loc Cert.KernelIdeal.nD Cert.KernelIdeal.τ Cert.KernelIdeal.sig) → Buf (Elt Ideal) ℓ)
    (g : Dev Cert.KernelIdeal.nD → PrngReg) (h : ∀ c, Cert.Chain.LaterReals m c) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD, r.2.mem ((c.tc : Thread Cert.KernelIdeal.nD Cert.KernelIdeal.τ).loc Cert.KernelIdeal.main_v0) = Cert.Chain.result m c
        ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2)
          = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3)
          = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4)
          = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5)
          = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6)
          = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7)
          = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8)
          = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9)
          = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10)
          = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11)
          = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12)
          = m ((c.tc : Thread Cert.KernelIdeal.nD Cert.KernelIdeal.τ).loc Cert.KernelIdeal.main_arg12)
        ∧ r.2.mem ((c.tc : Thread Cert.KernelIdeal.nD Cert.KernelIdeal.τ).loc Cert.KernelIdeal.main_arg13)
          = m ((c.tc : Thread Cert.KernelIdeal.nD Cert.KernelIdeal.τ).loc Cert.KernelIdeal.main_arg13)
        ∧ r.2.mem ((c.tc : Thread Cert.KernelIdeal.nD Cert.KernelIdeal.τ).loc Cert.KernelIdeal.main_arg14)
          = m ((c.tc : Thread Cert.KernelIdeal.nD Cert.KernelIdeal.τ).loc Cert.KernelIdeal.main_arg14)
        ∧ r.2.mem ((c.tc : Thread Cert.KernelIdeal.nD Cert.KernelIdeal.τ).loc Cert.KernelIdeal.main_arg15)
          = m ((c.tc : Thread Cert.KernelIdeal.nD Cert.KernelIdeal.τ).loc Cert.KernelIdeal.main_arg15)
        ∧ r.2.mem ((c.tc : Thread Cert.KernelIdeal.nD Cert.KernelIdeal.τ).loc Cert.KernelIdeal.main_arg16)
          = m ((c.tc : Thread Cert.KernelIdeal.nD Cert.KernelIdeal.τ).loc Cert.KernelIdeal.main_arg16)) :=
  (θ_run (Cert.KernelIdeal.defs (F := Ideal)) _ _).mono
    (fun r hr c => And.intro
      (((hr.1 c).2 Cert.KernelIdeal.main_v0 (by decide)).trans (Cert.Chain.tail_result m c (h c))) (hr.2 c))
    (θ_run_and (Cert.KernelIdeal.Gen.run_main m g) (Cert.KernelIdeal.Gen.unchanged m g))

/-- The idealized reference's run ends quiescent with its arguments unchanged. -/
theorem reference_frame : Cert.quiescent_ReferenceIdeal := fun m g _ =>
  (θ_run (Cert.ReferenceIdeal.defs (F := Ideal)) _ _).mono
    (fun r h => ⟨fun c => (h c).2, sem_eq_zero_of_no_sems (by decide) r.2⟩) (Cert.ReferenceIdeal.Value.run m g)

/-- The kernel and the reference, idealized, return the same. -/
theorem value : Cert.algebraic_KernelIdeal_ReferenceIdeal_pre_later_weights_finite := by
  intro m g m' g' hpre hagree
  have hr : ∀ c, Cert.Chain.LaterReals m c := fun c => Cert.Chain.pre_reals _ _ _ _ _ _ _ _ _ _ _ _ _ _ _ _ _ (hpre c)
  refine ⟨fun c => Cert.Chain.result m c, kernel_run m g hr, ?_⟩
  refine (θ_run (Cert.ReferenceIdeal.defs (F := Ideal)) _ _).mono (fun r h c => ⟨(h c).1.trans ?_, (h c).2⟩)
    (Cert.ReferenceIdeal.Value.run m' g')
  obtain ⟨e0, e1, e2, e3, e4, e5, e6, e7, e8, e9, e10, e11, e12, e13, e14, e15, e16⟩ := hagree c
  rw [Cert.ReferenceIdeal.Read.val_main_v87_eq, e0, e1, e2, e3, e4, e5, e6, e7, e8, e9, e10, e11, e12, e13, e14, e15, e16]
  rfl

/-- Everything the certificate claims. -/
theorem claim : Cert.Claim := ⟨Cert.Kernel.Gen.facts, Cert.KernelIdeal.Gen.facts, Cert.ReferenceIdeal.Gen.facts, Cert.Pre_later_weights_finite.Gen.facts,
  fun m g _ => Cert.Kernel.Gen.frame m g, fun m g _ => Cert.KernelIdeal.Gen.frame m g, fun m g _ => Cert.KernelIdeal.Gen.frame m g,
  reference_frame, fun m g _ => reference_frame m g trivial, trivial, value⟩

end Cert.Proof

end
